-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S4x4096x256 : Shape := ⟨3, ![4, 4096, 256]⟩
abbrev S7x512x256 : Shape := ⟨3, ![7, 512, 256]⟩
abbrev S8x512x256 : Shape := ⟨3, ![8, 512, 256]⟩
abbrev S_ : Shape := ⟨0, ![]⟩
abbrev S4 : Shape := ⟨1, ![4]⟩
abbrev S8 : Shape := ⟨1, ![8]⟩
abbrev S7 : Shape := ⟨1, ![7]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .f32⟩
  | .local _ .vmem, ⟨1, _⟩ => ⟨S4x4096x256, .f32⟩
  | .local _ .vmem, ⟨2, _⟩ => ⟨S7x512x256, .bf16⟩
  | .local _ .vmem, ⟨3, _⟩ => ⟨S8x512x256, .bf16⟩
  | .local _ .vmem, ⟨4, _⟩ => ⟨S8x512x256, .f32⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.addi v2 c1_i32_1
  let v7 : BitVec 32 := Scalar.addi v6 c0_i32
  let c8_i32_2 : BitVec 32 := 8#32
  let c0_i32_3 : BitVec 32 := 0#32
  let v8 : BitVec 1 := Scalar.cmpi .eq c8_i32_2 c0_i32_3
  let c1_i32_4 : BitVec 32 := 1#32
  let v9 : BitVec 32 := Scalar.select v8 c1_i32_4 c8_i32_2
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c256_i32 : BitVec 32 := 256#32
  let v18 : BitVec 32 := Scalar.muli v17 c256_i32
  ![0, v18.toNat]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v43 : BitVec 32 := Scalar.addi v2 c1_i32_27
  let c8_i32_28 : BitVec 32 := 8#32
  let c0_i32_29 : BitVec 32 := 0#32
  let v44 : BitVec 1 := Scalar.cmpi .eq c8_i32_28 c0_i32_29
  let c1_i32_30 : BitVec 32 := 1#32
  let v45 : BitVec 32 := Scalar.select v44 c1_i32_30 c8_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1_i32_35 : BitVec 32 := 1#32
  let v54 : BitVec 32 := Scalar.muli v53 c1_i32_35
  let v55 : BitVec 32 := Scalar.addi c0_i32_36 v54
  v55.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v56 : BitVec 32 := Scalar.addi v2 c2_i32
  let c8_i32_37 : BitVec 32 := 8#32
  let c0_i32_38 : BitVec 32 := 0#32
  let v57 : BitVec 1 := Scalar.cmpi .eq c8_i32_37 c0_i32_38
  let c1_i32_39 : BitVec 32 := 1#32
  let v58 : BitVec 32 := Scalar.select v57 c1_i32_39 c8_i32_37
  let v59 : BitVec 32 := Scalar.remsi v56 v58
  let c0_i32_41 : BitVec 32 := 0#32
  let v61 : BitVec 1 := Scalar.cmpi .slt v59 c0_i32_41
  let c0_i32_42 : BitVec 32 := 0#32
  let v62 : BitVec 1 := Scalar.cmpi .slt v58 c0_i32_42
  let v63 : BitVec 1 := Scalar.xori v61 v62
  let c0_i32_40 : BitVec 32 := 0#32
  let v60 : BitVec 1 := Scalar.cmpi .ne v59 c0_i32_40
  let v64 : BitVec 1 := Scalar.andi v63 v60
  let v65 : BitVec 32 := Scalar.addi v59 v58
  let v66 : BitVec 32 := Scalar.select v64 v65 v59
  let c1_i32_44 : BitVec 32 := 1#32
  let v67 : BitVec 32 := Scalar.muli v66 c1_i32_44
  let v68 : BitVec 32 := Scalar.addi c0_i32_45 v67
  v68.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v69 : BitVec 32 := Scalar.addi v2 c3_i32
  let c8_i32_46 : BitVec 32 := 8#32
  let c0_i32_47 : BitVec 32 := 0#32
  let v70 : BitVec 1 := Scalar.cmpi .eq c8_i32_46 c0_i32_47
  let c1_i32_48 : BitVec 32 := 1#32
  let v71 : BitVec 32 := Scalar.select v70 c1_i32_48 c8_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_53 : BitVec 32 := 1#32
  let v80 : BitVec 32 := Scalar.muli v79 c1_i32_53
  let v81 : BitVec 32 := Scalar.addi c0_i32_54 v80
  v81.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v82 : BitVec 32 := Scalar.addi v2 c4_i32
  let c8_i32_55 : BitVec 32 := 8#32
  let c0_i32_56 : BitVec 32 := 0#32
  let v83 : BitVec 1 := Scalar.cmpi .eq c8_i32_55 c0_i32_56
  let c1_i32_57 : BitVec 32 := 1#32
  let v84 : BitVec 32 := Scalar.select v83 c1_i32_57 c8_i32_55
  let v85 : BitVec 32 := Scalar.remsi v82 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c1_i32_62 : BitVec 32 := 1#32
  let v93 : BitVec 32 := Scalar.muli v92 c1_i32_62
  let v94 : BitVec 32 := Scalar.addi c0_i32_63 v93
  v94.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v95 : BitVec 32 := Scalar.addi v2 c5_i32
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let c1_i32_71 : BitVec 32 := 1#32
  let v106 : BitVec 32 := Scalar.muli v105 c1_i32_71
  let v107 : BitVec 32 := Scalar.addi c0_i32_72 v106
  v107.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v108 : BitVec 32 := Scalar.addi v2 c6_i32
  let c8_i32_73 : BitVec 32 := 8#32
  let c0_i32_74 : BitVec 32 := 0#32
  let v109 : BitVec 1 := Scalar.cmpi .eq c8_i32_73 c0_i32_74
  let c1_i32_75 : BitVec 32 := 1#32
  let v110 : BitVec 32 := Scalar.select v109 c1_i32_75 c8_i32_73
  let v111 : BitVec 32 := Scalar.remsi v108 v110
  let c0_i32_77 : BitVec 32 := 0#32
  let v113 : BitVec 1 := Scalar.cmpi .slt v111 c0_i32_77
  let c0_i32_78 : BitVec 32 := 0#32
  let v114 : BitVec 1 := Scalar.cmpi .slt v110 c0_i32_78
  let v115 : BitVec 1 := Scalar.xori v113 v114
  let c0_i32_76 : BitVec 32 := 0#32
  let v112 : BitVec 1 := Scalar.cmpi .ne v111 c0_i32_76
  let v116 : BitVec 1 := Scalar.andi v115 v112
  let v117 : BitVec 32 := Scalar.addi v111 v110
  let v118 : BitVec 32 := Scalar.select v116 v117 v111
  let c1_i32_80 : BitVec 32 := 1#32
  let v119 : BitVec 32 := Scalar.muli v118 c1_i32_80
  let v120 : BitVec 32 := Scalar.addi c0_i32_81 v119
  v120.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v121 : BitVec 32 := Scalar.addi v2 c7_i32
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1_i32_89 : BitVec 32 := 1#32
  let v132 : BitVec 32 := Scalar.muli v131 c1_i32_89
  let v133 : BitVec 32 := Scalar.addi c0_i32_90 v132
  v133.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_132 : BitVec 32 := 0#32
  let c0_i32_133 : BitVec 32 := 0#32
  ![v2.toNat, 0, 0]
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v167 : BitVec 32 := Scalar.addi v2 c1_i32_117
  let c0_i32_118 : BitVec 32 := 0#32
  let v168 : BitVec 32 := Scalar.addi v167 c0_i32_118
  let c8_i32_119 : BitVec 32 := 8#32
  let c0_i32_120 : BitVec 32 := 0#32
  let v169 : BitVec 1 := Scalar.cmpi .eq c8_i32_119 c0_i32_120
  let c1_i32_121 : BitVec 32 := 1#32
  let v170 : BitVec 32 := Scalar.select v169 c1_i32_121 c8_i32_119
  let v171 : BitVec 32 := Scalar.remsi v168 v170
  let c0_i32_123 : BitVec 32 := 0#32
  let v173 : BitVec 1 := Scalar.cmpi .slt v171 c0_i32_123
  let c0_i32_124 : BitVec 32 := 0#32
  let v174 : BitVec 1 := Scalar.cmpi .slt v170 c0_i32_124
  let v175 : BitVec 1 := Scalar.xori v173 v174
  let c0_i32_122 : BitVec 32 := 0#32
  let v172 : BitVec 1 := Scalar.cmpi .ne v171 c0_i32_122
  let v176 : BitVec 1 := Scalar.andi v175 v172
  let v177 : BitVec 32 := Scalar.addi v171 v170
  let v178 : BitVec 32 := Scalar.select v176 v177 v171
  let c1_i32_130 : BitVec 32 := 1#32
  let v183 : BitVec 32 := Scalar.muli v178 c1_i32_130
  let v184 : BitVec 32 := Scalar.addi c0_i32_131 v183
  v184.toNat
def k0_dev9 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_159 : BitVec 32 := 1#32
  let v224 : BitVec 32 := Scalar.addi v2 c1_i32_159
  let c1_i32_160 : BitVec 32 := 1#32
  let v225 : BitVec 32 := Scalar.addi v224 c1_i32_160
  let c8_i32_161 : BitVec 32 := 8#32
  let c0_i32_162 : BitVec 32 := 0#32
  let v226 : BitVec 1 := Scalar.cmpi .eq c8_i32_161 c0_i32_162
  let c1_i32_163 : BitVec 32 := 1#32
  let v227 : BitVec 32 := Scalar.select v226 c1_i32_163 c8_i32_161
  let v228 : BitVec 32 := Scalar.remsi v225 v227
  let c0_i32_165 : BitVec 32 := 0#32
  let v230 : BitVec 1 := Scalar.cmpi .slt v228 c0_i32_165
  let c0_i32_166 : BitVec 32 := 0#32
  let v231 : BitVec 1 := Scalar.cmpi .slt v227 c0_i32_166
  let v232 : BitVec 1 := Scalar.xori v230 v231
  let c0_i32_164 : BitVec 32 := 0#32
  let v229 : BitVec 1 := Scalar.cmpi .ne v228 c0_i32_164
  let v233 : BitVec 1 := Scalar.andi v232 v229
  let v234 : BitVec 32 := Scalar.addi v228 v227
  let v235 : BitVec 32 := Scalar.select v233 v234 v228
  let c1_i32_172 : BitVec 32 := 1#32
  let v240 : BitVec 32 := Scalar.muli v235 c1_i32_172
  let v241 : BitVec 32 := Scalar.addi c0_i32_173 v240
  v241.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_201 : BitVec 32 := 1#32
  let v281 : BitVec 32 := Scalar.addi v2 c1_i32_201
  let c2_i32_202 : BitVec 32 := 2#32
  let v282 : BitVec 32 := Scalar.addi v281 c2_i32_202
  let c8_i32_203 : BitVec 32 := 8#32
  let c0_i32_204 : BitVec 32 := 0#32
  let v283 : BitVec 1 := Scalar.cmpi .eq c8_i32_203 c0_i32_204
  let c1_i32_205 : BitVec 32 := 1#32
  let v284 : BitVec 32 := Scalar.select v283 c1_i32_205 c8_i32_203
  let v285 : BitVec 32 := Scalar.remsi v282 v284
  let c0_i32_207 : BitVec 32 := 0#32
  let v287 : BitVec 1 := Scalar.cmpi .slt v285 c0_i32_207
  let c0_i32_208 : BitVec 32 := 0#32
  let v288 : BitVec 1 := Scalar.cmpi .slt v284 c0_i32_208
  let v289 : BitVec 1 := Scalar.xori v287 v288
  let c0_i32_206 : BitVec 32 := 0#32
  let v286 : BitVec 1 := Scalar.cmpi .ne v285 c0_i32_206
  let v290 : BitVec 1 := Scalar.andi v289 v286
  let v291 : BitVec 32 := Scalar.addi v285 v284
  let v292 : BitVec 32 := Scalar.select v290 v291 v285
  let c1_i32_214 : BitVec 32 := 1#32
  let v297 : BitVec 32 := Scalar.muli v292 c1_i32_214
  let v298 : BitVec 32 := Scalar.addi c0_i32_215 v297
  v298.toNat
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v338 : BitVec 32 := Scalar.addi v2 c1_i32_243
  let c3_i32_244 : BitVec 32 := 3#32
  let v339 : BitVec 32 := Scalar.addi v338 c3_i32_244
  let c8_i32_245 : BitVec 32 := 8#32
  let c0_i32_246 : BitVec 32 := 0#32
  let v340 : BitVec 1 := Scalar.cmpi .eq c8_i32_245 c0_i32_246
  let c1_i32_247 : BitVec 32 := 1#32
  let v341 : BitVec 32 := Scalar.select v340 c1_i32_247 c8_i32_245
  let v342 : BitVec 32 := Scalar.remsi v339 v341
  let c0_i32_249 : BitVec 32 := 0#32
  let v344 : BitVec 1 := Scalar.cmpi .slt v342 c0_i32_249
  let c0_i32_250 : BitVec 32 := 0#32
  let v345 : BitVec 1 := Scalar.cmpi .slt v341 c0_i32_250
  let v346 : BitVec 1 := Scalar.xori v344 v345
  let c0_i32_248 : BitVec 32 := 0#32
  let v343 : BitVec 1 := Scalar.cmpi .ne v342 c0_i32_248
  let v347 : BitVec 1 := Scalar.andi v346 v343
  let v348 : BitVec 32 := Scalar.addi v342 v341
  let v349 : BitVec 32 := Scalar.select v347 v348 v342
  let c1_i32_256 : BitVec 32 := 1#32
  let v354 : BitVec 32 := Scalar.muli v349 c1_i32_256
  let v355 : BitVec 32 := Scalar.addi c0_i32_257 v354
  v355.toNat
def k0_dev12 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_286 : BitVec 32 := 1#32
  let v395 : BitVec 32 := Scalar.addi v2 c1_i32_286
  let c4_i32_287 : BitVec 32 := 4#32
  let v396 : BitVec 32 := Scalar.addi v395 c4_i32_287
  let c8_i32_288 : BitVec 32 := 8#32
  let c0_i32_289 : BitVec 32 := 0#32
  let v397 : BitVec 1 := Scalar.cmpi .eq c8_i32_288 c0_i32_289
  let c1_i32_290 : BitVec 32 := 1#32
  let v398 : BitVec 32 := Scalar.select v397 c1_i32_290 c8_i32_288
  let v399 : BitVec 32 := Scalar.remsi v396 v398
  let c0_i32_292 : BitVec 32 := 0#32
  let v401 : BitVec 1 := Scalar.cmpi .slt v399 c0_i32_292
  let c0_i32_293 : BitVec 32 := 0#32
  let v402 : BitVec 1 := Scalar.cmpi .slt v398 c0_i32_293
  let v403 : BitVec 1 := Scalar.xori v401 v402
  let c0_i32_291 : BitVec 32 := 0#32
  let v400 : BitVec 1 := Scalar.cmpi .ne v399 c0_i32_291
  let v404 : BitVec 1 := Scalar.andi v403 v400
  let v405 : BitVec 32 := Scalar.addi v399 v398
  let v406 : BitVec 32 := Scalar.select v404 v405 v399
  let c1_i32_298 : BitVec 32 := 1#32
  let v411 : BitVec 32 := Scalar.muli v406 c1_i32_298
  let v412 : BitVec 32 := Scalar.addi c0_i32_299 v411
  v412.toNat
def k0_dev13 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_328 : BitVec 32 := 1#32
  let v452 : BitVec 32 := Scalar.addi v2 c1_i32_328
  let c5_i32_329 : BitVec 32 := 5#32
  let v453 : BitVec 32 := Scalar.addi v452 c5_i32_329
  let c8_i32_330 : BitVec 32 := 8#32
  let c0_i32_331 : BitVec 32 := 0#32
  let v454 : BitVec 1 := Scalar.cmpi .eq c8_i32_330 c0_i32_331
  let c1_i32_332 : BitVec 32 := 1#32
  let v455 : BitVec 32 := Scalar.select v454 c1_i32_332 c8_i32_330
  let v456 : BitVec 32 := Scalar.remsi v453 v455
  let c0_i32_334 : BitVec 32 := 0#32
  let v458 : BitVec 1 := Scalar.cmpi .slt v456 c0_i32_334
  let c0_i32_335 : BitVec 32 := 0#32
  let v459 : BitVec 1 := Scalar.cmpi .slt v455 c0_i32_335
  let v460 : BitVec 1 := Scalar.xori v458 v459
  let c0_i32_333 : BitVec 32 := 0#32
  let v457 : BitVec 1 := Scalar.cmpi .ne v456 c0_i32_333
  let v461 : BitVec 1 := Scalar.andi v460 v457
  let v462 : BitVec 32 := Scalar.addi v456 v455
  let v463 : BitVec 32 := Scalar.select v461 v462 v456
  let c1_i32_340 : BitVec 32 := 1#32
  let v468 : BitVec 32 := Scalar.muli v463 c1_i32_340
  let v469 : BitVec 32 := Scalar.addi c0_i32_341 v468
  v469.toNat
def k0_dev14 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_356 : BitVec 32 := 1#32
  let v491 : BitVec 32 := Scalar.addi v2 c1_i32_356
  let c6_i32_357 : BitVec 32 := 6#32
  let v492 : BitVec 32 := Scalar.addi v491 c6_i32_357
  let c8_i32_358 : BitVec 32 := 8#32
  let c0_i32_359 : BitVec 32 := 0#32
  let v493 : BitVec 1 := Scalar.cmpi .eq c8_i32_358 c0_i32_359
  let c1_i32_360 : BitVec 32 := 1#32
  let v494 : BitVec 32 := Scalar.select v493 c1_i32_360 c8_i32_358
  let v495 : BitVec 32 := Scalar.remsi v492 v494
  let c0_i32_362 : BitVec 32 := 0#32
  let v497 : BitVec 1 := Scalar.cmpi .slt v495 c0_i32_362
  let c0_i32_363 : BitVec 32 := 0#32
  let v498 : BitVec 1 := Scalar.cmpi .slt v494 c0_i32_363
  let v499 : BitVec 1 := Scalar.xori v497 v498
  let c0_i32_361 : BitVec 32 := 0#32
  let v496 : BitVec 1 := Scalar.cmpi .ne v495 c0_i32_361
  let v500 : BitVec 1 := Scalar.andi v499 v496
  let v501 : BitVec 32 := Scalar.addi v495 v494
  let v502 : BitVec 32 := Scalar.select v500 v501 v495
  let c1_i32_368 : BitVec 32 := 1#32
  let v507 : BitVec 32 := Scalar.muli v502 c1_i32_368
  let v508 : BitVec 32 := Scalar.addi c0_i32_369 v507
  v508.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v530 : Index := Scalar.indexCast v2
  let c0_384 : Index := 0#32
  let c0_385 : Index := 0#32
  ![v530.toNat, 0, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v534 : BitVec 32 := Scalar.muli v2 c512_i32
  let c0_i32_386 : BitVec 32 := 0#32
  ![v534.toNat, 0]
def k0_off6 (d0 : Dev nD) (c1_i32_389 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.subi v2 c1_i32_389
  let c8_i32_390 : BitVec 32 := 8#32
  let c0_i32_391 : BitVec 32 := 0#32
  let v541 : BitVec 1 := Scalar.cmpi .eq c8_i32_390 c0_i32_391
  let c1_i32_392 : BitVec 32 := 1#32
  let v542 : BitVec 32 := Scalar.select v541 c1_i32_392 c8_i32_390
  let v543 : BitVec 32 := Scalar.remsi v540 v542
  let c0_i32_394 : BitVec 32 := 0#32
  let v545 : BitVec 1 := Scalar.cmpi .slt v543 c0_i32_394
  let c0_i32_395 : BitVec 32 := 0#32
  let v546 : BitVec 1 := Scalar.cmpi .slt v542 c0_i32_395
  let v547 : BitVec 1 := Scalar.xori v545 v546
  let c0_i32_393 : BitVec 32 := 0#32
  let v544 : BitVec 1 := Scalar.cmpi .ne v543 c0_i32_393
  let v548 : BitVec 1 := Scalar.andi v547 v544
  let v549 : BitVec 32 := Scalar.addi v543 v542
  let v550 : BitVec 32 := Scalar.select v548 v549 v543
  ![v550.toNat]
def k0_off7 (d0 : Dev nD) (c1_i32_389 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.subi v2 c1_i32_389
  let c8_i32_390 : BitVec 32 := 8#32
  let c0_i32_391 : BitVec 32 := 0#32
  let v541 : BitVec 1 := Scalar.cmpi .eq c8_i32_390 c0_i32_391
  let c1_i32_392 : BitVec 32 := 1#32
  let v542 : BitVec 32 := Scalar.select v541 c1_i32_392 c8_i32_390
  let v543 : BitVec 32 := Scalar.remsi v540 v542
  let c0_i32_394 : BitVec 32 := 0#32
  let v545 : BitVec 1 := Scalar.cmpi .slt v543 c0_i32_394
  let c0_i32_395 : BitVec 32 := 0#32
  let v546 : BitVec 1 := Scalar.cmpi .slt v542 c0_i32_395
  let v547 : BitVec 1 := Scalar.xori v545 v546
  let c0_i32_393 : BitVec 32 := 0#32
  let v544 : BitVec 1 := Scalar.cmpi .ne v543 c0_i32_393
  let v548 : BitVec 1 := Scalar.andi v547 v544
  let v549 : BitVec 32 := Scalar.addi v543 v542
  let v550 : BitVec 32 := Scalar.select v548 v549 v543
  let c0_i32_400 : BitVec 32 := 0#32
  let c0_i32_401 : BitVec 32 := 0#32
  ![v550.toNat, 0, 0]
def k0_off8 (d0 : Dev nD) (c1_i32_389 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.subi v2 c1_i32_389
  let c8_i32_390 : BitVec 32 := 8#32
  let c0_i32_391 : BitVec 32 := 0#32
  let v541 : BitVec 1 := Scalar.cmpi .eq c8_i32_390 c0_i32_391
  let c1_i32_392 : BitVec 32 := 1#32
  let v542 : BitVec 32 := Scalar.select v541 c1_i32_392 c8_i32_390
  let v543 : BitVec 32 := Scalar.remsi v540 v542
  let c0_i32_394 : BitVec 32 := 0#32
  let v545 : BitVec 1 := Scalar.cmpi .slt v543 c0_i32_394
  let c0_i32_395 : BitVec 32 := 0#32
  let v546 : BitVec 1 := Scalar.cmpi .slt v542 c0_i32_395
  let v547 : BitVec 1 := Scalar.xori v545 v546
  let c0_i32_393 : BitVec 32 := 0#32
  let v544 : BitVec 1 := Scalar.cmpi .ne v543 c0_i32_393
  let v548 : BitVec 1 := Scalar.andi v547 v544
  let v549 : BitVec 32 := Scalar.addi v543 v542
  let v550 : BitVec 32 := Scalar.select v548 v549 v543
  let v559 : Index := Scalar.indexCast v550
  let c0_404 : Index := 0#32
  let c0_405 : Index := 0#32
  ![v559.toNat, 0, 0]
def k0_off9 (d0 : Dev nD) (c1_i32_389 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.subi v2 c1_i32_389
  let c8_i32_390 : BitVec 32 := 8#32
  let c0_i32_391 : BitVec 32 := 0#32
  let v541 : BitVec 1 := Scalar.cmpi .eq c8_i32_390 c0_i32_391
  let c1_i32_392 : BitVec 32 := 1#32
  let v542 : BitVec 32 := Scalar.select v541 c1_i32_392 c8_i32_390
  let v543 : BitVec 32 := Scalar.remsi v540 v542
  let c0_i32_394 : BitVec 32 := 0#32
  let v545 : BitVec 1 := Scalar.cmpi .slt v543 c0_i32_394
  let c0_i32_395 : BitVec 32 := 0#32
  let v546 : BitVec 1 := Scalar.cmpi .slt v542 c0_i32_395
  let v547 : BitVec 1 := Scalar.xori v545 v546
  let c0_i32_393 : BitVec 32 := 0#32
  let v544 : BitVec 1 := Scalar.cmpi .ne v543 c0_i32_393
  let v548 : BitVec 1 := Scalar.andi v547 v544
  let v549 : BitVec 32 := Scalar.addi v543 v542
  let v550 : BitVec 32 := Scalar.select v548 v549 v543
  let c512_i32_408 : BitVec 32 := 512#32
  let v567 : BitVec 32 := Scalar.muli v550 c512_i32_408
  let c0_i32_409 : BitVec 32 := 0#32
  ![v567.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.KernelIdeal.Cells.lean ====
/-
The all-to-all of the kernel: the names its proof uses.

Each of the 8 devices multiplies its rows of `x` with the column block of `w` that a peer owns and sends the
result to that peer. This module names the buffers' slots, the semaphores and the peers, and evaluates the
offsets and device numbers the kernel computes from its own device number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The peers -/

set_option backward.proofsInPublic true in
/-- The device `k` places after `c`. -/
def peer (c : Dev nD) (k : ℕ) : Dev nD := ⟨(c.val + k) % 8, Nat.mod_lt _ (by decide)⟩

theorem peer_ne (c : Dev nD) (k : Fin 7) : peer c (k.val + 1) ≠ c := by revert c k; decide
theorem peer_last (c : Dev nD) : peer c 8 = c := by revert c; decide

theorem dev1_eq (d : Dev nD) : (⟨k0_dev1 d, k0_dev1_lt d⟩ : Dev nD) = peer d 1 := by revert d; decide
theorem dev2_eq (d : Dev nD) : (⟨k0_dev2 d, k0_dev2_lt d⟩ : Dev nD) = peer d 2 := by revert d; decide
theorem dev3_eq (d : Dev nD) : (⟨k0_dev3 d, k0_dev3_lt d⟩ : Dev nD) = peer d 3 := by revert d; decide
theorem dev4_eq (d : Dev nD) : (⟨k0_dev4 d, k0_dev4_lt d⟩ : Dev nD) = peer d 4 := by revert d; decide
theorem dev5_eq (d : Dev nD) : (⟨k0_dev5 d, k0_dev5_lt d⟩ : Dev nD) = peer d 5 := by revert d; decide
theorem dev6_eq (d : Dev nD) : (⟨k0_dev6 d, k0_dev6_lt d⟩ : Dev nD) = peer d 6 := by revert d; decide
theorem dev7_eq (d : Dev nD) : (⟨k0_dev7 d, k0_dev7_lt d⟩ : Dev nD) = peer d 7 := by revert d; decide
theorem dev8_eq (d : Dev nD) : (⟨k0_dev8 d, k0_dev8_lt d⟩ : Dev nD) = peer d 1 := by revert d; decide
theorem dev9_eq (d : Dev nD) : (⟨k0_dev9 d, k0_dev9_lt d⟩ : Dev nD) = peer d 2 := by revert d; decide
theorem dev10_eq (d : Dev nD) : (⟨k0_dev10 d, k0_dev10_lt d⟩ : Dev nD) = peer d 3 := by revert d; decide
theorem dev11_eq (d : Dev nD) : (⟨k0_dev11 d, k0_dev11_lt d⟩ : Dev nD) = peer d 4 := by revert d; decide
theorem dev12_eq (d : Dev nD) : (⟨k0_dev12 d, k0_dev12_lt d⟩ : Dev nD) = peer d 5 := by revert d; decide
theorem dev13_eq (d : Dev nD) : (⟨k0_dev13 d, k0_dev13_lt d⟩ : Dev nD) = peer d 6 := by revert d; decide
theorem dev14_eq (d : Dev nD) : (⟨k0_dev14 d, k0_dev14_lt d⟩ : Dev nD) = peer d 7 := by revert d; decide

/-! ## The slots of the buffers -/

abbrev xH : Memref sig .tc .hbm S512x4096 .f32 := Memref.whole main_arg0
abbrev wH : Memref sig .tc .hbm S4096x2048 .f32 := Memref.whole main_arg1
abbrev oH : Memref sig .tc .hbm S4096x256 .f32 := Memref.whole main_v1
abbrev xV : Memref sig .tc .vmem S512x4096 .f32 := Memref.whole cc0_scratch0
abbrev wV : Memref sig .tc .vmem S4x4096x256 .f32 := Memref.whole cc0_scratch1
abbrev sV : Memref sig .tc .vmem S7x512x256 .bf16 := Memref.whole cc0_scratch2
abbrev rV : Memref sig .tc .vmem S8x512x256 .bf16 := Memref.whole cc0_scratch3
abbrev yV : Memref sig .tc .vmem S8x512x256 .f32 := Memref.whole cc0_scratch4

theorem wSlot_inb (k : Fin 4) : ∀ a, (![k.val, 0, 0] : Fin 3 → ℕ) a + S1x4096x256.size a ≤ S4x4096x256.size a := by revert k; decide
theorem sSlot_inb (k : Fin 7) : ∀ a, (![k.val, 0, 0] : Fin 3 → ℕ) a + S1x512x256.size a ≤ S7x512x256.size a := by revert k; decide
theorem eSlot_inb (e : Dev nD) : ∀ a, (![e.val, 0, 0] : Fin 3 → ℕ) a + S1x512x256.size a ≤ S8x512x256.size a := by revert e; decide
theorem wCol_inb (e : Dev nD) : ∀ a, (![0, 256 * e.val] : Fin 2 → ℕ) a + S4096x256.size a ≤ S4096x2048.size a := by revert e; decide
theorem oRow_inb (e : Dev nD) : ∀ a, (![512 * e.val, 0] : Fin 2 → ℕ) a + S512x256.size a ≤ S4096x256.size a := by revert e; decide

abbrev wSlotR (k : Fin 4) : Rect S4x4096x256 := Rect.unit (s := S4x4096x256) ![k.val, 0, 0] S1x4096x256.size (wSlot_inb k)
abbrev sSlotR (k : Fin 7) : Rect S7x512x256 := Rect.unit (s := S7x512x256) ![k.val, 0, 0] S1x512x256.size (sSlot_inb k)
abbrev eSlotR (e : Dev nD) : Rect S8x512x256 := Rect.unit (s := S8x512x256) ![e.val, 0, 0] S1x512x256.size (eSlot_inb e)
abbrev wColR (e : Dev nD) : Rect S4096x2048 := Rect.unit (s := S4096x2048) ![0, 256 * e.val] S4096x256.size (wCol_inb e)
abbrev oRowR (e : Dev nD) : Rect S4096x256 := Rect.unit (s := S4096x256) ![512 * e.val, 0] S512x256.size (oRow_inb e)

/-- Slot `k` of the buffer of `w` blocks, -/
abbrev wS (k : Fin 4) : Memref sig .tc .vmem S1x4096x256 .f32 := wV.slice (wSlotR k) (fun _ => rfl)
abbrev wQ (k : Fin 4) : Memref sig .tc .vmem S4096x256 .f32 := (wS k).squeeze S4096x256 squeezes_S1x4096x256_S4096x256
/-- slot `k` of the send buffer, -/
abbrev sS (k : Fin 7) : Memref sig .tc .vmem S1x512x256 .bf16 := sV.slice (sSlotR k) (fun _ => rfl)
abbrev sQ (k : Fin 7) : Memref sig .tc .vmem S512x256 .bf16 := (sS k).squeeze S512x256 squeezes_S1x512x256_S512x256
/-- the slot of the receive buffer that device `e` fills, -/
abbrev rS (e : Dev nD) : Memref sig .tc .vmem S1x512x256 .bf16 := rV.slice (eSlotR e) (fun _ => rfl)
abbrev rQ (e : Dev nD) : Memref sig .tc .vmem S512x256 .bf16 := (rS e).squeeze S512x256 squeezes_S1x512x256_S512x256
/-- the slot of the result staging for device `e`'s rows, -/
abbrev yS (e : Dev nD) : Memref sig .tc .vmem S1x512x256 .f32 := yV.slice (eSlotR e) (fun _ => rfl)
abbrev yQ (e : Dev nD) : Memref sig .tc .vmem S512x256 .f32 := (yS e).squeeze S512x256 squeezes_S1x512x256_S512x256
/-- the columns of `w` that device `e` owns the result of, -/
abbrev wC (e : Dev nD) : Memref sig .tc .hbm S4096x256 .f32 := wH.slice (wColR e) (fun _ => rfl)
/-- and the rows of the result that come from device `e`. -/
abbrev oR (e : Dev nD) : Memref sig .tc .hbm S512x256 .f32 := oH.slice (oRowR e) (fun _ => rfl)

/-! ## The offsets the kernel computes -/

theorem off1_eq (d : Dev nD) (r : Fin 8) : k0_off1 d (BitVec.ofNat 32 r.val) = ![0, 256 * (peer d (r.val + 1)).val] := by revert d r; decide
theorem off6_eq (d : Dev nD) (r : Fin 7) : k0_off6 d (BitVec.ofNat 32 (r.val + 1)) = ![(peer d (7 - r.val)).val] := by revert d r; decide
theorem off7_eq (d : Dev nD) (r : Fin 7) : k0_off7 d (BitVec.ofNat 32 (r.val + 1)) = ![(peer d (7 - r.val)).val, 0, 0] := by revert d r; decide
theorem off8_eq (d : Dev nD) (r : Fin 7) : k0_off8 d (BitVec.ofNat 32 (r.val + 1)) = ![(peer d (7 - r.val)).val, 0, 0] := by revert d r; decide
theorem off9_eq (d : Dev nD) (r : Fin 7) : k0_off9 d (BitVec.ofNat 32 (r.val + 1)) = ![512 * (peer d (7 - r.val)).val, 0] := by revert d r; decide

/-! ## The semaphores -/

abbrev xSem : DmaSem sig := ⟨2, by decide⟩
abbrev wSem (k : Fin 4) : DmaSem sig := ⟨3 + k.val, by revert k; decide⟩
abbrev oSem (e : Dev nD) : DmaSem sig := ⟨7 + e.val, by revert e; decide⟩
abbrev sSem (k : Fin 7) : DmaSem sig := ⟨15 + k.val, by revert k; decide⟩
abbrev rSem (e : Dev nD) : DmaSem sig := ⟨22 + e.val, by revert e; decide⟩
abbrev bSem : Sem sig := (SemArray.scalar (sig.barrier 0 rfl) : Sems sig S_).sem

theorem xSem_eq : (cc0_scratch5 : DmaSems sig S_).sem = xSem := by decide
theorem wSem_eq (k : Fin 4) (inb) : (((cc0_scratch6 : DmaSems sig S4).slice (Rect.unit (s := S4) ![k.val] S1.size inb)).squeeze S_ squeezes_S1_S_).sem = wSem k := by
  revert k; decide
theorem sSem_eq (k : Fin 7) (inb) : (((cc0_scratch8 : DmaSems sig S7).slice (Rect.unit (s := S7) ![k.val] S1.size inb)).squeeze S_ squeezes_S1_S_).sem = sSem k := by
  revert k; decide
theorem oSem_eq (e : Dev nD) {off : Fin 1 → ℕ} (h : off = ![e.val]) (inb) :
    (((cc0_scratch7 : DmaSems sig S8).slice (Rect.unit (s := S8) off S1.size inb)).squeeze S_ squeezes_S1_S_).sem = oSem e := by
  subst h; revert e; decide
theorem rSem_eq (e : Dev nD) {off : Fin 1 → ℕ} (h : off = ![e.val]) (inb) :
    (((cc0_scratch9 : DmaSems sig S8).slice (Rect.unit (s := S8) off S1.size inb)).squeeze S_ squeezes_S1_S_).sem = rSem e := by
  subst h; revert e; decide

abbrev barCell (c : Dev nD) : GSem nD τ sig := ((c : Thread nD τ), .reg bSem)
abbrev sendCell (c : Dev nD) (k : Fin 7) : GSem nD τ sig := ((c : Thread nD τ), .dma (sSem k))
abbrev recvCell (c e : Dev nD) : GSem nD τ sig := ((c : Thread nD τ), .dma (rSem e))

/-- What a transfer of one result block credits. -/
abbrev N : ℕ := (rQ (0 : Fin 8)).view.dmaCredit
theorem N_pos : 0 < N := View.dmaCredit_pos _ (by decide)
theorem N_recv (e : Dev nD) : (rQ e).view.dmaCredit = N := rfl
theorem N_send (k : Fin 7) : (sQ k).view.dmaCredit = N := by rfl

end Cert.KernelIdeal.Exchange
-- ==== Proof.KernelIdeal.Schedule.lean ====
/-
The all-to-all of the kernel: the contents of its buffers and the schedule of its cells.

Every device has one barrier cell, which each of its 7 peers raises by one; 7 cells of its own sends; and 8 cells
of its receives, one for each sender. The barrier raise of device `d` hands its peer `c` the slot of `d`'s receive
buffer that `c` fills. A send hands its source back, and a receive hands over the filled slot, with the block of
the result that the sender computed in it.
-/
module

public import proofs.«01_k».proof.Proof.KernelIdeal.Cells

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging's cells, the exchange's cells, the local copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The staged scales, -/
def stx (c : Dev nD) : (cc0_stg0_0 : Ref sig .tc).ty.Contents (Elt F) := (win0_0.blk (0 : Fin 1)).view.read (Elt F) (m ((c : Thread nD τ).loc main_arg2))
def stw (c : Dev nD) : (cc0_stg1_0 : Ref sig .tc).ty.Contents (Elt F) := (win0_1.blk (0 : Fin 1)).view.read (Elt F) (m ((c : Thread nD τ).loc main_arg3))
/-- their product, -/
def scl (c : Dev nD) : F .f32 := k0_pay1 (stx m c (Shape.Idx.first (numel1_S1.symm ▸ Nat.one_pos))) (stw m c (Shape.Idx.first (numel1_S1.symm ▸ Nat.one_pos)))
/-- the rows of `x` that device `c` holds, as the kernel multiplies them, -/
def xv (c : Dev nD) : S512x4096.Idx → Elt F .f32 := m ((c : Thread nD τ).loc main_arg0)
def xf (c : Dev nD) : FVec F S512x4096 .fp8e4m3 := k0_pay2 (xv m c)
/-- block `e` of the columns of `w`, in its slot's shape, -/
def wcv (c e : Dev nD) : S4096x256.Idx → Elt F .f32 := (wC e).view.read (Elt F) (m ((c : Thread nD τ).loc main_arg1))
def wl (c e : Dev nD) : S1x4096x256.Idx → Elt F .f32 := fun i => wcv m c e ((Shape.reshapeEquiv squeezes_S1x4096x256_S4096x256.numel_eq).symm i)
/-- the block of the result that device `c` computes for device `e`, as it sends it, -/
def yb (c e : Dev nD) : S1x512x256.Idx → Elt F .bf16 := k0_pay3 (scl m c) (xf m c) (wl m c e)
def yq (c e : Dev nD) : S512x256.Idx → Elt F .bf16 := fun i => yb m c e (Shape.reshapeEquiv squeezes_S1x512x256_S512x256.numel_eq i)
/-- and device `e`'s rows of the result on device `c`: its own are not rounded to 16 bits. -/
def outs (c e : Dev nD) : S1x512x256.Idx → Elt F .f32 := if e = c then k0_pay15 (scl m c) (xf m c) (wl m c c) else k0_pay16 (yb m e c)
def outq (c e : Dev nD) : S512x256.Idx → Elt F .f32 := fun i => outs m c e (Shape.reshapeEquiv squeezes_S1x512x256_S512x256.numel_eq i)

/-! ## The cells -/

/-- A device's cells: the barrier, its sends, its receives. -/
abbrev CI : Type := Unit ⊕ (Fin 7 ⊕ Dev nD)
abbrev csem : CI → SemLoc sig
  | .inl _ => .reg bSem
  | .inr (.inl k) => .dma (sSem k)
  | .inr (.inr e) => .dma (rSem e)
abbrev kcell (ci : Dev nD × CI) : GSem nD τ sig := ((ci.1 : Thread nD τ), csem ci.2)

/-- Which send and which receive a cell is. -/
def sOf (s : DmaSem sig) : Fin 7 := ⟨(s.val - 15) % 7, Nat.mod_lt _ (by decide)⟩
def rOf (s : DmaSem sig) : Dev nD := ⟨(s.val - 22) % 8, Nat.mod_lt _ (by decide)⟩
theorem sOf_sSem (k : Fin 7) : sOf (sSem k) = k := by revert k; decide
theorem rOf_rSem (e : Dev nD) : rOf (rSem e) = e := by revert e; decide

def barPay (c d : Dev nD) : sProp 𝕄 := iprop((∃ X, owns (d : Thread nD τ) (rQ c) fullShare X) ∗ reached ER (recvCell d c) 0)
def sendPay (c : Dev nD) (k : Fin 7) : sProp 𝕄 := owns (c : Thread nD τ) (sQ k) fullShare (yq m c (peer c (k.val + 1)))
def recvPay (c e : Dev nD) : sProp 𝕄 := owns (c : Thread nD τ) (rQ e) fullShare (yq m e c)

omit [FloatOps F] in
instance barPay_storable (c d : Dev nD) : BI.Storable (upEmb : UEmb _ 𝕄) (barPay (F := F) c d) := by unfold barPay; infer_instance
instance sendPay_storable (c : Dev nD) (k) : BI.Storable (upEmb : UEmb _ 𝕄) (sendPay (F := F) m c k) := by unfold sendPay; infer_instance
instance recvPay_storable (c e : Dev nD) : BI.Storable (upEmb : UEmb _ 𝕄) (recvPay (F := F) m c e) := by unfold recvPay; infer_instance

/-- One round for each cell. -/
def exRd : Rounds.Schedule (GSem nD τ sig) (Dev nD) 𝕄 where
  duties g r := if r = 0 ∧ g.1.2 = .tc then
      (match g.2 with
        | .reg b => if b = bSem then Finset.univ.erase g.1.1 else ∅
        | .dma s => if s.val < 15 then ∅ else if s.val < 22 then {g.1.1} else ({rOf s} : Finset (Dev nD)).erase g.1.1)
    else ∅
  unitless _ := False
  amount g _ _ := match g.2 with | .reg _ => 1 | .dma _ => N
  payload g _ d := match g.2 with
    | .reg _ => barPay g.1.1 d
    | .dma s => if s.val < 22 then sendPay m g.1.1 (sOf s) else recvPay m g.1.1 (rOf s)
  amount_pos g _ _ _ := by
    rcases g with ⟨t, s | s⟩
    · exact Nat.one_pos
    · exact N_pos

instance exRd_payload_storable (g : GSem nD τ sig) (r : ℕ) (d : Dev nD) :
    BI.Storable (upEmb : UEmb _ 𝕄) ((exRd (F := F) m).payload g r d) := by
  rcases g with ⟨t, s | s⟩
  · show BI.Storable upEmb (barPay t.1 d); infer_instance
  · show BI.Storable upEmb (if s.val < 22 then sendPay m t.1 (sOf s) else recvPay m t.1 (rOf s))
    split <;> infer_instance

section Sched
variable (c : Dev nD)

theorem sSem_ge (k : Fin 7) : ¬ (sSem k).val < 15 := by revert k; decide
theorem sSem_lt (k : Fin 7) : (sSem k).val < 22 := by revert k; decide
theorem rSem_ge (e : Dev nD) : ¬ (rSem e).val < 15 := by revert e; decide
theorem rSem_ge' (e : Dev nD) : ¬ (rSem e).val < 22 := by revert e; decide

theorem duties_bar : (exRd (F := F) m).duties (barCell c) 0 = Finset.univ.erase c := rfl
theorem duties_send (k : Fin 7) : (exRd (F := F) m).duties (sendCell c k) 0 = {c} := by
  show (if (sSem k).val < 15 then ∅ else if (sSem k).val < 22 then ({c} : Finset (Dev nD)) else _) = _
  rw [if_neg (sSem_ge k), if_pos (sSem_lt k)]
theorem duties_recv' (e : Dev nD) : (exRd (F := F) m).duties (recvCell c e) 0 = ({e} : Finset (Dev nD)).erase c := by
  show (if (rSem e).val < 15 then ∅ else if (rSem e).val < 22 then ({c} : Finset (Dev nD)) else ({rOf (rSem e)} : Finset (Dev nD)).erase c) = _
  rw [if_neg (rSem_ge e), if_neg (rSem_ge' e), rOf_rSem]
theorem duties_recv {e : Dev nD} (h : e ≠ c) : (exRd (F := F) m).duties (recvCell c e) 0 = {e} := by
  rw [duties_recv', Finset.erase_eq_of_notMem (by rw [Finset.mem_singleton]; exact fun h' => h h'.symm)]
theorem duties_self : (exRd (F := F) m).duties (recvCell c c) 0 = ∅ := by rw [duties_recv']; exact Finset.erase_singleton c
theorem duties_later (g : GSem nD τ sig) : ∀ r, 1 ≤ r → (exRd (F := F) m).duties g r = ∅ :=
  fun r hr => by dsimp only [exRd]; rw [if_neg fun h => by omega]
theorem duties_self_any : ∀ r, 0 ≤ r → (exRd (F := F) m).duties (recvCell c c) r = ∅ := fun r _ => by
  rcases Nat.eq_zero_or_pos r with rfl | h
  · exact duties_self m c
  · exact duties_later m _ r h

theorem amount_bar (d : Dev nD) : (exRd (F := F) m).amount (barCell c) 0 d = 1 := rfl
theorem amount_send (k : Fin 7) (d : Dev nD) : (exRd (F := F) m).amount (sendCell c k) 0 d = N := rfl
theorem amount_recv (e d : Dev nD) : (exRd (F := F) m).amount (recvCell c e) 0 d = N := rfl

theorem expect_bar : (exRd (F := F) m).expect (barCell c) 0 = 7 := by
  unfold Schedule.expect Schedule.amountOf
  rw [duties_bar, Finset.sum_congr rfl fun d _ => amount_bar m c d, Finset.sum_const, Finset.card_erase_of_mem (Finset.mem_univ c)]
  rfl
theorem expect_send (k : Fin 7) : (exRd (F := F) m).expect (sendCell c k) 0 = N := by
  unfold Schedule.expect Schedule.amountOf; rw [duties_send, Finset.sum_singleton, amount_send]
theorem expect_recv {e : Dev nD} (h : e ≠ c) : (exRd (F := F) m).expect (recvCell c e) 0 = N := by
  unfold Schedule.expect Schedule.amountOf; rw [duties_recv m c h, Finset.sum_singleton, amount_recv]

theorem payload_bar (d : Dev nD) : (exRd (F := F) m).payload (barCell c) 0 d = barPay c d := rfl
theorem payload_send (k : Fin 7) (d : Dev nD) : (exRd (F := F) m).payload (sendCell c k) 0 d = sendPay m c k := by
  show (if (sSem k).val < 22 then sendPay m c (sOf (sSem k)) else _) = _
  rw [if_pos (sSem_lt k), sOf_sSem]
theorem payload_recv (e d : Dev nD) : (exRd (F := F) m).payload (recvCell c e) 0 d = recvPay m c e := by
  show (if (rSem e).val < 22 then _ else recvPay m c (rOf (rSem e))) = _
  rw [if_neg (rSem_ge' e), rOf_rSem]

theorem rest_bar : bigSep ((exRd (F := F) m).duties (barCell c) 0 \ ∅) (fun d => (exRd (F := F) m).payload (barCell c) 0 d)
    = bigSep (Finset.univ.erase c) (fun d => barPay c d) := by
  rw [Finset.sdiff_empty, duties_bar]; rfl
theorem rest_send (k : Fin 7) : bigSep ((exRd (F := F) m).duties (sendCell c k) 0 \ ∅) (fun d => (exRd (F := F) m).payload (sendCell c k) 0 d) = sendPay m c k := by
  rw [Finset.sdiff_empty, duties_send, bigSep_singleton, payload_send]
theorem rest_recv {e : Dev nD} (h : e ≠ c) : bigSep ((exRd (F := F) m).duties (recvCell c e) 0 \ ∅) (fun d => (exRd (F := F) m).payload (recvCell c e) 0 d) = recvPay m c e := by
  rw [Finset.sdiff_empty, duties_recv m c h, bigSep_singleton, payload_recv]

end Sched

/-! ## What a device owes, and the levels -/

/-- The last `n` sends of device `c`, -/
def OS (c : Dev nD) : ℕ → CellTallies nD τ sig Unit
  | 0 => 0
  | n + 1 => OS c n + tallyAt (recvCell (peer c (7 - n)) c) () N
/-- and the last `n` barrier raises, before every send. -/
def OB (c : Dev nD) : ℕ → CellTallies nD τ sig Unit
  | 0 => OS c 7
  | n + 1 => OB c n + tallyAt (barCell (peer c (7 - n))) () 1

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma s => if s.val < 22 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c e : Dev nD) : lv (recvCell c e) () = 2 := if_neg (rSem_ge' e)
theorem lv_bar (c : Dev nD) : lv (barCell c) () = 1 := rfl
theorem lv_dma (c : Dev nD) (s : DmaSem sig) (h : s.val < 22) : lv ((c : Thread nD τ), .dma s) () = 0 := if_pos h

/-- Everything owed is owed to cells of a level above `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O : CellTallies nD τ sig Unit} (hO : Above n O) (c : Dev nD) (sm : SemLoc sig) (hl : n < lv ((c : Thread nD τ), sm) ()) (k : ℕ) :
    Above n (O + tallyAt ((c : Thread nD τ), sm) () k) := fun g u h => by
  rw [Pi.add_apply, Finsupp.add_apply, tallyAt_apply] at h
  by_cases hg : g = ((c : Thread nD τ), sm) ∧ u = ()
  · rw [hg.1, L_tc]; exact ⟨Finset.mem_singleton_self _, hl⟩
  · rw [if_neg hg, Nat.add_zero] at h; exact hO g u h
theorem above_OS (c : Dev nD) : ∀ n, Above 1 (OS c n)
  | 0 => above_zero 1
  | n + 1 => above_add (above_OS c n) _ _ (by rw [lv_recv]; decide) _
theorem above_mono {n : ℕ} {O : CellTallies nD τ sig Unit} (h : Above (n + 1) O) : Above n O := fun g u hg => ⟨(h g u hg).1, Nat.lt_of_succ_lt (h g u hg).2⟩
theorem above_OB (c : Dev nD) : ∀ n, Above 0 (OB c n)
  | 0 => above_mono (above_OS c 7)
  | n + 1 => above_add (above_OB c n) _ _ (by rw [lv_bar]; decide) _

omit [FloatOps F] in
theorem mayWait_of (c : Dev nD) (sm : SemLoc sig) (n : ℕ) (hl : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hl) (fun g u hg => (hO g u hg).2)
omit [FloatOps F] in
theorem mayWait_dma (c : Dev nD) (s : DmaSem sig) (h : s.val < 22) {O : CellTallies nD τ sig Unit} (hO : Above 0 O) :
    (levAts L lv : sProp 𝕄) ⊢ MayWait (c : Thread nD τ) (.dma s) () O := mayWait_of c _ 0 (by rw [lv_dma c s h]) hO
omit [FloatOps F] in
theorem mayWait_bar (c : Dev nD) : (levAts L lv : sProp 𝕄) ⊢ MayWait (c : Thread nD τ) (.reg bSem) () (OS c 7) :=
  mayWait_of c _ 1 (by rw [lv_bar]) (above_OS c 7)
omit [FloatOps F] in
theorem mayWait_none (c : Dev nD) (sm : SemLoc sig) : (levAts L lv : sProp 𝕄) ⊢ MayWait (c : Thread nD τ) sm () 0 := by
  rw [MayWait_zero]; iintro -; iempintro

end Cert.KernelIdeal.Exchange
-- ==== Proof.KernelIdeal.Ops.lean ====
/-
The steps of the kernel on device `c`: one rule for each kind of operation it performs, on the slots of its buffers
and the cells of the exchange.
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` on device `c` meets `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owns `M`, which reads `X`; -/
abbrev own (c : Dev nD) {sp : Space} {s : Shape} {e : EltTy} (M : Memref sig .tc sp s e) (X : s.Idx → Elt F e) : sProp 𝕄 :=
  owns (c : Thread nD τ) M fullShare X
/-- with some contents; -/
def some_ (c : Dev nD) {sp : Space} {s : Shape} {e : EltTy} (M : Memref sig .tc sp s e) : sProp 𝕄 := iprop(∃ X : s.Idx → Elt F e, own c M X)
/-- and it owes `O`, whatever it has waited for. -/
def owing (c : Dev nD) (O : CellTallies nD τ sig Unit) : sProp 𝕄 := iprop(∃ W, owes (c : Thread nD τ) O W)

omit [FloatOps F] in
theorem some_of (c : Dev nD) {sp : Space} {s : Shape} {e : EltTy} (M : Memref sig .tc sp s e) (X : s.Idx → Elt F e) : (own c M X : sProp 𝕄) ⊢ some_ c M := by
  unfold some_; iintro H; iexists X; iexact H

omit [FloatOps F] in
/-- Owning a slot and owning it with the unit axis dropped are the same. -/
theorem own_squeeze (c : Dev nD) {sp : Space} {s s' : Shape} {e : EltTy} (M : Memref sig .tc sp s e) (h : s.Squeezes s') (X : s.Idx → Elt F e) :
    (own c (M.squeeze s' h) (fun i => X (Shape.reshapeEquiv h.numel_eq i)) : sProp 𝕄) = own c M X := by
  have hset : (M.squeeze s' h).view.set = M.view.set := View.set_reshape _ _
  have hrd (f : M.view.ty.Contents (Elt F)) : (M.squeeze s' h).view.read (Elt F) f = fun i => M.view.read (Elt F) f (Shape.reshapeEquiv h.numel_eq i) := rfl
  have h₁ : (own c (M.squeeze s' h) (fun i => X (Shape.reshapeEquiv h.numel_eq i)) : sProp 𝕄) ⊢ own c M X := by
    unfold own owns
    rw [hset]
    iintro ⟨%f, %hf, H⟩
    iexists f; isplitr
    · ipureintro
      rw [hrd] at hf
      funext i
      have := congrFun hf ((Shape.reshapeEquiv h.numel_eq).symm i)
      simpa only [Equiv.apply_symm_apply] using this
    iexact H
  have h₂ : (own c M X : sProp 𝕄) ⊢ own c (M.squeeze s' h) (fun i => X (Shape.reshapeEquiv h.numel_eq i)) := by
    unfold own owns
    rw [hset]
    iintro ⟨%f, %hf, H⟩
    iexists f; isplitr
    · ipureintro; rw [hrd, hf]
    iexact H
  exact BI.equiv_iff.mp ⟨h₁, h₂⟩

omit [FloatOps F] in
theorem own_unsqueeze (c : Dev nD) {sp : Space} {s s' : Shape} {e : EltTy} (M : Memref sig .tc sp s e) (h : s.Squeezes s') (Y : s'.Idx → Elt F e) :
    (own c (M.squeeze s' h) Y : sProp 𝕄) = own c M (fun i => Y ((Shape.reshapeEquiv h.numel_eq).symm i)) := by
  rw [← own_squeeze c M h]; simp only [Equiv.symm_apply_apply]

omit [FloatOps F] in
theorem some_squeeze (c : Dev nD) {sp : Space} {s s' : Shape} {e : EltTy} (M : Memref sig .tc sp s e) (h : s.Squeezes s') :
    (some_ c (M.squeeze s' h) : sProp 𝕄) ⊢ some_ (F := F) c M := by
  unfold some_; iintro ⟨%Y, H⟩; ihave H' := (Entails.of_eq (own_unsqueeze c M h Y)) $$ H; iexists _; iexact H'

omit [FloatOps F] in
theorem some_unsqueeze (c : Dev nD) {sp : Space} {s s' : Shape} {e : EltTy} (M : Memref sig .tc sp s e) (h : s.Squeezes s') :
    (some_ (F := F) c M : sProp 𝕄) ⊢ some_ c (M.squeeze s' h) := by
  unfold some_; iintro ⟨%Y, H⟩; ihave H' := (Entails.of_eq (own_squeeze c M h Y).symm) $$ H; iexists _; iexact H'

/-! ## Loads and stores -/

section Steps
variable (c : Dev nD) {α : Type} {Q : α → sProp (MT nD τ sig Unit (Elt F) ℕ UU ℕ)}

theorem op_load {cs : CoreSpace} {s : Shape} {e : EltTy} {M : Memref sig .tc cs s e} {r : Rect s} {hl : M.view.LoadsAt r} {hr : ∀ a, r.stride a = 1}
    {k : (r.shape.Idx → Elt F e) → Prog (TpuEff nD τ sig (Elt F) Λ₀ .tc) α} {S : Memref sig .tc cs r.shape e} (hS : M.slice r hr = S) {X : r.shape.Idx → Elt F e} :
    (own c S X : sProp 𝕄) ⊢ iprop((own c S X -∗ WP c (k X) Q) -∗ WP c (.op (.load M r hl) k) Q) := by
  subst hS
  unfold own owns
  iintro ⟨%f, %hf, H⟩ Hk
  iapply (wp_load_rect 𝒱₀ (c : Thread nD τ) none Set.univ (m := M) (r := r) (S := (M.access r).set) subset_rfl) $$ H
  iintro H
  rw [show (M.access r).read (Elt F) f = X from hf]
  iapply Hk
  iexists f; isplitr; · (ipureintro; exact hf)
  iexact H

theorem op_store {cs : CoreSpace} {s : Shape} {e : EltTy} {M : Memref sig .tc cs s e} {r : Rect s} {w : r.shape.Idx → Elt F e} {hx : (M.access r).Stores Finset.univ}
    {hm : (Finset.univ : Finset r.shape.Idx) = Finset.univ ∨ ∀ a, r.stride a = 1} {hr : ∀ a, r.stride a = 1}
    {k : PUnit → Prog (TpuEff nD τ sig (Elt F) Λ₀ .tc) α} {S : Memref sig .tc cs r.shape e} (hS : M.slice r hr = S) :
    (some_ (F := F) c S : sProp 𝕄) ⊢ iprop((own c S w -∗ WP c (k ⟨⟩) Q) -∗ WP c (.op (.store M r w Finset.univ hx hm) k) Q) := by
  subst hS
  unfold some_ own owns
  iintro ⟨%X, %f, %hf, H⟩ Hk
  iapply (wp_store 𝒱₀ (c : Thread nD τ) none Set.univ (m := M) (r := r) (w := w) (Mk := Finset.univ) (S := (M.access r).set) subset_rfl) $$ H
  iintro H
  iapply Hk
  iexists _; isplitr
  · ipureintro; exact View.read_write_univ (v := M.access r) f w
  iexact H

/-! ## Local copies -/

theorem op_copy {sp sp' : Space} {s : Shape} {e : EltTy} {src' src : Memref sig .tc sp s e} {dst' dst : Memref sig .tc sp' s e} {sm' sm : DmaSem sig}
    (hs : src' = src) (hd : dst' = dst) (hsm : sm' = sm) {n : ℕ} (hn : dst.view.dmaCredit = n) (hn0 : 0 < n)
    {hsrc : src'.view.WordExact} {hdst : dst'.view.WordExact} {hsem : DmaTarget.Typed (nD := nD) (τ := τ) (p := .tc) sp (.dma sm') (.here dst')}
    {k : PUnit → Prog (TpuEff nD τ sig (Elt F) Λ₀ .tc) α} {X : s.Idx → Elt F e} :
    (iprop(own c src X ∗ some_ (F := F) c dst ∗ semVal ((c : Thread nD τ), .dma sm) 0) : sProp 𝕄)
      ⊢ iprop((Transfers.Flight EC (c : Thread nD τ) (.dma sm) () n iprop(own c dst X ∗ own c src X) -∗ WP c (k ⟨⟩) Q)
          -∗ WP c (.op (.enqueueDma src' (.here dst') (.dma sm') hsrc hdst hsem) k) Q) := by
  subst hs hd hsm
  unfold some_ own owns
  iintro ⟨⟨%fs, %hfs, Hs⟩, ⟨%Y, %fd, %hfd, Hd⟩, Hv⟩ Hk
  have hD : (iprop((dst'.view.loc (c : Thread nD τ) ↦[dst'.view.set]{fullShare} (dst'.view.write (Elt F) fd (src'.view.read (Elt F) fs) Finset.univ))
        ∗ (src'.view.loc (c : Thread nD τ) ↦[src'.view.set]{fullShare} fs)) : sProp 𝕄)
      ⊢ iprop((∃ f, ⌜dst'.view.read (Elt F) f = X⌝ ∗ (dst'.view.loc (c : Thread nD τ) ↦[dst'.view.set]{fullShare} f))
        ∗ (∃ f, ⌜src'.view.read (Elt F) f = X⌝ ∗ (src'.view.loc (c : Thread nD τ) ↦[src'.view.set]{fullShare} f))) := by
    iintro ⟨Hd, Hs⟩
    isplitl [Hd]
    · iexists (dst'.view.write (Elt F) fd (src'.view.read (Elt F) fs) Finset.univ); isplitr
      · ipureintro; exact (View.read_write_univ _ _).trans hfs
      iexact Hd
    iexists fs; isplitr; · (ipureintro; exact hfs)
    iexact Hs
  iapply (Transfers.wp_dmaLocal EC 𝒱₀ (c : Thread nD τ) none (src := src') (dst := dst') (sm := .dma sm') (q := fullShare) (fs := fs) (fd := fd)
    (Sd := dst'.view.set) () n hn hn0 subset_rfl) $$ [Hs Hd Hv]
  · isplitl [Hs]; · iexact Hs
    isplitl [Hd] <;> iassumption
  iintro Hf
  iapply Hk
  iapply (Transfers.Flight_mono EC (c : Thread nD τ) hD) $$ Hf

theorem op_wait {sp sp' : Space} {s s' : Shape} {e e' : EltTy} {κ' : Kind} {sm' sm : DmaSem sig} (hsm : sm' = sm)
    {srcw : Memref sig .tc sp' s' e'} {dstw : Memref sig κ' sp s e} {hsrc : srcw.view.WordExact} {hdst : dstw.view.WordExact} {n : ℕ}
    (hn : dstw.view.dmaCredit = n) (hlt : sm.val < 22) {O : CellTallies nD τ sig Unit} (hO : Above 0 O) {D : sProp 𝕄}
    {k : PUnit → Prog (TpuEff nD τ sig (Elt F) Λ₀ .tc) α} :
    (iprop(levAts L lv ∗ Transfers.Flight EC (c : Thread nD τ) (.dma sm) () n D ∗ owing c O) : sProp 𝕄)
      ⊢ iprop(((D ∗ semVal ((c : Thread nD τ), .dma sm) 0 ∗ owing c O) -∗ WP c (k ⟨⟩) Q)
          -∗ WP c (.op (.waitDma2 sm' srcw dstw hsrc hdst) k) Q) := by
  subst hsm
  unfold owing
  iintro ⟨#Hlev, Hf, %W, HO⟩ Hk
  iapply (Transfers.wp_waitLocalO EC 𝒱₀ (c : Thread nD τ) none () hn) $$ [Hf HO]
  · isplitl [Hf]; · iexact Hf
    isplitl [HO]; · iexact HO
    iapply (mayWait_dma c sm' hlt hO); iexact Hlev
  iintro ⟨HD, Hv, HO⟩
  iapply Hk
  isplitl [HD]; · iexact HD
  isplitl [Hv]; · iexact Hv
  iexists _; iexact HO

end Steps

/-! ## The cells -/

variable (m : (ℓ : Loc nD τ sig) → Buf (Elt F) ℓ)

/-- Every cell's invariant, under the names `K`; that every cell has reached its round; and the levels. -/
def ctx (K : Dev nD × CI → ℕ) : sProp 𝕄 :=
  iprop((bigSep Finset.univ fun ci : Dev nD × CI => cellInv ER (exRd m) (K ci) (kcell ci))
    ∗ (bigSep Finset.univ fun ci : Dev nD × CI => reached ER (kcell ci) 0) ∗ levAts L lv)

instance ctx_persistent (K : Dev nD × CI → ℕ) : BI.Persistent (ctx m K) := by unfold ctx; infer_instance

theorem ctx_inv (K : Dev nD × CI → ℕ) (ci : Dev nD × CI) : (ctx m K : sProp 𝕄) ⊢ cellInv ER (exRd m) (K ci) (kcell ci) := by
  unfold ctx; iintro ⟨H, -, -⟩
  iapply (show (bigSep Finset.univ fun ci : Dev nD × CI => (cellInv ER (exRd m) (K ci) (kcell ci) : sProp 𝕄)) ⊢ cellInv ER (exRd m) (K ci) (kcell ci) from
    bigSep_elim (Finset.mem_univ ci)) $$ H
theorem ctx_reached (K : Dev nD × CI → ℕ) (ci : Dev nD × CI) : (ctx m K : sProp 𝕄) ⊢ reached ER (kcell ci) 0 := by
  unfold ctx; iintro ⟨-, H, -⟩
  iapply (show (bigSep Finset.univ fun ci : Dev nD × CI => (reached ER (kcell ci) 0 : sProp 𝕄)) ⊢ reached ER (kcell ci) 0 from
    bigSep_elim (Finset.mem_univ ci)) $$ H
theorem ctx_lev (K : Dev nD × CI → ℕ) : (ctx m K : sProp 𝕄) ⊢ levAts L lv := by
  unfold ctx; iintro ⟨-, -, H⟩; iexact H

abbrev iBar : CI := .inl ()
abbrev iSend (k : Fin 7) : CI := .inr (.inl k)
abbrev iRecv (e : Dev nD) : CI := .inr (.inr e)

section Exch
variable (K : Dev nD × CI → ℕ) (c : Dev nD) {α : Type} {Q : α → sProp (MT nD τ sig Unit (Elt F) ℕ UU ℕ)}

/-- The barrier raise of a peer hands it the slot of the receive buffer that the peer fills. -/
theorem op_signal {n p : Dev nD} (hn : n = p) (hp : p ≠ c) {j : ℕ} (hj : 1 = j) (O : CellTallies nD τ sig Unit)
    {k : PUnit → Prog (TpuEff nD τ sig (Elt F) Λ₀ .tc) α} :
    (iprop(ctx m K ∗ dutyTok ER (barCell p) 0 c ∗ some_ (F := F) c (rQ p) ∗ owing c (O + tallyAt (barCell p) () 1)) : sProp 𝕄)
      ⊢ iprop((owing c O -∗ WP c (k ⟨⟩) Q) -∗ WP c (.op (.semSignal (Dev.tc n : Thread nD τ) bSem j) k) Q) := by
  subst hn
  unfold owing
  iintro ⟨#HC, Ht, Hr, %W, HO⟩ Hk
  iapply (Rounds.wp_signal 𝒱₀ ER (exRd m) (c : Thread nD τ) none (dst := (n : Thread nD τ)) (κ := K (n, iBar)) (r := 0)
      (d := c) (by rw [duties_bar]; exact Finset.mem_erase.mpr ⟨hp.symm, Finset.mem_univ _⟩) ((amount_bar m n c).trans hj) () (O₀ := O + tallyAt (barCell n) () 1) O (by rw [hj])) $$ [HO Ht Hr]
  · isplitr; · iapply (ctx_inv m K (n, iBar)); iexact HC
    isplitl [HO]; · iexact HO
    isplitl [Ht]; · iexact Ht
    isplitl [Hr]
    · rw [payload_bar]; unfold barPay
      isplitl [Hr]; · unfold some_; iexact Hr
      iapply (ctx_reached m K (c, iRecv n)); iexact HC
    · iapply (ctx_reached m K (n, iBar)); iexact HC
  iintro HO
  iapply Hk
  iexists W; iexact HO

/-- The barrier wait brings the peers' slots, and the barrier cell is done. -/
theorem op_barwait {j : ℕ} (hj : 7 = j) {k : PUnit → Prog (TpuEff nD τ sig (Elt F) Λ₀ .tc) α} :
    (iprop(ctx m K ∗ atPos ER (barCell c) 0 ∅ 0 ∗ cred (tallyAt (barCell c) () 7) ∗ owing c (OS c 7)) : sProp 𝕄)
      ⊢ iprop(((semVal (barCell c) 0 ∗ (bigSep (Finset.univ.erase c) fun d : Dev nD => some_ (F := F) d (rQ c)) ∗ owing c (OS c 7)) -∗ WP c (k ⟨⟩) Q)
          -∗ WP c (.op (.semWait bSem j) k) Q) := by
  subst hj
  unfold owing
  iintro ⟨#HC, Hat, Hc, %W, HO⟩ Hk
  iapply (Rounds.wp_wait_rest_token 𝒱₀ ER (exRd m) (c : Thread nD τ) none (κ := K (c, iBar))
      (wpE_semWait_eq 𝒱₀ (c : Thread nD τ) none Set.univ) (Set.mem_univ _) () (O := OS c 7) (W := W) (R := 0) (m := 0) (T := ∅)
      (by rw [expect_bar])) $$ [Hc HO Hat]
  · isplitr; · iapply (ctx_inv m K (c, iBar)); iexact HC
    isplitl [Hc]; · iexact Hc
    isplitl [HO]; · iexact HO
    isplitr; · iapply (mayWait_bar c); iapply (ctx_lev m K); iexact HC
    iexact Hat
  iintro ⟨HO, Hat, -, Hpay⟩
  ihave Hp := (Entails.of_eq (rest_bar m c)) $$ Hpay
  imod (Rounds.cell_close ER (exRd m) (Set.mem_univ (K (c, iBar))) (fun h => h) (R := 0 + 1) (duties_later m (barCell c))) $$ [Hat] with Hz
  · isplitr; · iapply (ctx_inv m K (c, iBar)); iexact HC
    iexact Hat
  iapply Hk
  isplitl [Hz]; · iexact Hz
  isplitl [Hp]
  · iapply (show (bigSep (Finset.univ.erase c) fun d : Dev nD => (barPay c d : sProp 𝕄)) ⊢ bigSep (Finset.univ.erase c) fun d : Dev nD => some_ (F := F) d (rQ c) from
      bigSep_mono fun d _ => show (barPay (F := F) c d : sProp 𝕄) ⊢ some_ (F := F) d (rQ c) from by unfold barPay some_; iintro ⟨H, -⟩; iexact H) $$ Hp
  iexists _; iexact HO

set_option maxHeartbeats 1000000 in
/-- The transfer of a block to a peer. -/
theorem op_send (st : Fin 7) {n : Dev nD} (hn : n = peer c (st.val + 1)) {src' : Memref sig .tc .vmem S512x256 .bf16} {dst' : Memref sig .tc .vmem S512x256 .bf16}
    {ss sr : DmaSem sig} (hsrc : src' = sQ st) (hdst : dst' = rQ c) (hss : ss = sSem st) (hsr : sr = rSem c) (O : CellTallies nD τ sig Unit)
    {hsc : (dst' : Memref sig (Dev.tc n : Thread nD τ).2.kind .vmem S512x256 .bf16).view.ref.isScScratch = false}
    {hx : src'.view.WordExact} {hy : dst'.view.WordExact}
    {hsem : DmaTarget.Typed .vmem (.dma sr) (.remote (Dev.tc n : Thread nD τ) (dst' : Memref sig .tc .vmem S512x256 .bf16) (.dma ss) hsc)}
    {k : PUnit → Prog (TpuEff nD τ sig (Elt F) Λ₀ .tc) α} :
    (iprop(ctx m K ∗ own c (sS st) (yb m c (peer c (st.val + 1))) ∗ some_ (F := F) (peer c (st.val + 1)) (rQ c)
        ∗ owing c (O + tallyAt (recvCell (peer c (st.val + 1)) c) () N)
        ∗ dutyTok ER (sendCell c st) 0 c ∗ dutyTok ER (recvCell (peer c (st.val + 1)) c) 0 c) : sProp 𝕄)
      ⊢ iprop(((cred (tallyAt (sendCell c st) () N) ∗ owing c O) -∗ WP c (k ⟨⟩) Q)
          -∗ WP c (.op (.enqueueDma src' (.remote (Dev.tc n : Thread nD τ) dst' (.dma ss) hsc) (.dma sr) hx hy hsem) k) Q) := by
  subst hn hsrc hdst hss hsr
  rw [← own_squeeze c (sS st) squeezes_S1x512x256_S512x256]
  unfold owing some_ own owns
  iintro ⟨#HC, ⟨%fs, %hfs, Hs⟩, ⟨%Y, %fd, %hfd, Hd⟩, ⟨%W, HO⟩, HtS, HtR⟩ Hk
  iapply (Rounds.wp_send_pointsTo 𝒱₀ ER (exRd m) (c : Thread nD τ) none (κ₁ := K (c, iSend st)) (κ₂ := K (peer c (st.val + 1), iRecv c))
    (c' := (peer c (st.val + 1) : Thread nD τ)) (src := sQ st) (dst := (rQ c : Memref sig .tc .vmem S512x256 .bf16)) (q := fullShare) (fs := fs)
    (r₁ := 0) (r₂ := 0) (d₁ := c) (d₂ := c) (fd := fd)
    (by rw [duties_send]; exact Finset.mem_singleton_self _) (by rw [duties_recv m _ (peer_ne c st).symm]; exact Finset.mem_singleton_self _)
    () () N rfl (amount_send m c st c) (amount_recv m _ c c) O rfl (W := W)
    (by rw [payload_send]; unfold sendPay owns
        iintro H; iexists fs; isplitr; · (ipureintro; exact hfs)
        iexact H)
    (by rw [payload_recv]; unfold recvPay owns
        iintro H; iexists ((rQ c).view.write (Elt F) fd ((sQ st).view.read (Elt F) fs) Finset.univ)
        isplitr; · (ipureintro; exact (View.read_write_univ _ _).trans hfs)
        iexact H)) $$ [Hs Hd HO HtS HtR]
  · isplitr; · iapply (ctx_inv m K (c, iSend st)); iexact HC
    isplitr; · iapply (ctx_inv m K (peer c (st.val + 1), iRecv c)); iexact HC
    isplitl [Hs]; · iexact Hs
    isplitl [Hd]; · iexact Hd
    isplitl [HO]; · iexact HO
    isplitl [HtS]; · iexact HtS
    isplitr; · iapply (ctx_reached m K (c, iSend st)); iexact HC
    isplitl [HtR]; · iexact HtR
    iapply (ctx_reached m K (peer c (st.val + 1), iRecv c)); iexact HC
  iintro ⟨Hc, HO⟩
  iapply Hk
  isplitl [Hc]; · iexact Hc
  iexists W; iexact HO

/-- The wait for a peer's block, after which that cell is done. -/
theorem op_recvwait {e : Dev nD} (he : e ≠ c) {sp sp' : Space} {s s' : Shape} {t t' : EltTy} {κ' : Kind} {sm' : DmaSem sig} (hsm : sm' = rSem e)
    {srcw : Memref sig .tc sp' s' t'} {dstw : Memref sig κ' sp s t} {hsrc : srcw.view.WordExact} {hdst : dstw.view.WordExact}
    (hn : dstw.view.dmaCredit = N) {k : PUnit → Prog (TpuEff nD τ sig (Elt F) Λ₀ .tc) α} :
    (iprop(ctx m K ∗ atPos ER (recvCell c e) 0 ∅ 0 ∗ cred (tallyAt (recvCell c e) () N) ∗ owing c 0) : sProp 𝕄)
      ⊢ iprop(((semVal (recvCell c e) 0 ∗ own c (rS e) (yb m e c) ∗ owing c 0) -∗ WP c (k ⟨⟩) Q)
          -∗ WP c (.op (.waitDma2 sm' srcw dstw hsrc hdst) k) Q) := by
  subst hsm
  unfold owing
  iintro ⟨#HC, Hat, Hc, %W, HO⟩ Hk
  iapply (Rounds.wp_wait_rest_token 𝒱₀ ER (exRd m) (c : Thread nD τ) none (κ := K (c, iRecv e))
      (wpE_waitDma2_eq 𝒱₀ (c : Thread nD τ) none Set.univ) (Set.mem_univ _) () (O := 0) (W := W) (R := 0) (m := 0) (T := ∅)
      (by rw [Nat.zero_add, expect_recv m c he, hn])) $$ [Hc HO Hat]
  · isplitr; · iapply (ctx_inv m K (c, iRecv e)); iexact HC
    isplitl [Hc]; · rw [hn]; iexact Hc
    isplitl [HO]; · iexact HO
    isplitr; · rw [MayWait_zero]; iempintro
    iexact Hat
  iintro ⟨HO, Hat, -, Hpay⟩
  ihave Hp := (Entails.of_eq (rest_recv m c he)) $$ Hpay
  imod (Rounds.cell_close ER (exRd m) (Set.mem_univ (K (c, iRecv e))) (fun h => h) (R := 0 + 1) (duties_later m (recvCell c e))) $$ [Hat] with Hz
  · isplitr; · iapply (ctx_inv m K (c, iRecv e)); iexact HC
    iexact Hat
  iapply Hk
  isplitl [Hz]; · iexact Hz
  isplitl [Hp]
  · rw [← own_squeeze c (rS e) squeezes_S1x512x256_S512x256]; unfold recvPay; iexact Hp
  iexists _; iexact HO

/-- The wait for a send, after which that cell is done. -/
theorem op_sendwait (st : Fin 7) {sp sp' : Space} {s s' : Shape} {t t' : EltTy} {κ' : Kind} {sm' : DmaSem sig} (hsm : sm' = sSem st)
    {srcw : Memref sig .tc sp' s' t'} {dstw : Memref sig κ' sp s t} {hsrc : srcw.view.WordExact} {hdst : dstw.view.WordExact}
    (hn : dstw.view.dmaCredit = N) {k : PUnit → Prog (TpuEff nD τ sig (Elt F) Λ₀ .tc) α} :
    (iprop(ctx m K ∗ atPos ER (sendCell c st) 0 ∅ 0 ∗ cred (tallyAt (sendCell c st) () N) ∗ owing c 0) : sProp 𝕄)
      ⊢ iprop(((semVal (sendCell c st) 0 ∗ some_ (F := F) c (sS st) ∗ owing c 0) -∗ WP c (k ⟨⟩) Q)
          -∗ WP c (.op (.waitDma2 sm' srcw dstw hsrc hdst) k) Q) := by
  subst hsm
  unfold owing
  iintro ⟨#HC, Hat, Hc, %W, HO⟩ Hk
  iapply (Rounds.wp_wait_rest_token 𝒱₀ ER (exRd m) (c : Thread nD τ) none (κ := K (c, iSend st))
      (wpE_waitDma2_eq 𝒱₀ (c : Thread nD τ) none Set.univ) (Set.mem_univ _) () (O := 0) (W := W) (R := 0) (m := 0) (T := ∅)
      (by rw [Nat.zero_add, expect_send, hn])) $$ [Hc HO Hat]
  · isplitr; · iapply (ctx_inv m K (c, iSend st)); iexact HC
    isplitl [Hc]; · rw [hn]; iexact Hc
    isplitl [HO]; · iexact HO
    isplitr; · rw [MayWait_zero]; iempintro
    iexact Hat
  iintro ⟨HO, Hat, -, Hpay⟩
  ihave Hp := (Entails.of_eq (rest_send m c st)) $$ Hpay
  imod (Rounds.cell_close ER (exRd m) (Set.mem_univ (K (c, iSend st))) (fun h => h) (R := 0 + 1) (duties_later m (sendCell c st))) $$ [Hat] with Hz
  · isplitr; · iapply (ctx_inv m K (c, iSend st)); iexact HC
    iexact Hat
  iapply Hk
  isplitl [Hz]; · iexact Hz
  isplitl [Hp]
  · iapply (some_squeeze c (sS st) squeezes_S1x512x256_S512x256); unfold sendPay; iapply (some_of c (sQ st)) $$ Hp
  iexists _; iexact HO

end Exch

end Cert.KernelIdeal.Exchange
-- ==== Proof.KernelIdeal.Steps.lean ====
/-
The steps of the kernel in the shapes its parts use: a block of `w` fetched into its slot, a block of the result
sent, a received block copied out.
-/
module

public import proofs.«01_k».proof.Proof.KernelIdeal.Ops

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What the copies into the buffers of `x` and `w` and out of the result staging credit. -/
abbrev NX : ℕ := (xV : Memref sig .tc .vmem S512x4096 .f32).view.dmaCredit
abbrev NW : ℕ := (wQ 0).view.dmaCredit
abbrev NO : ℕ := (oR (0 : Fin 8)).view.dmaCredit
theorem NX_pos : 0 < NX := View.dmaCredit_pos _ (by decide)
theorem NW_pos : 0 < NW := View.dmaCredit_pos _ (by decide)
theorem NO_pos : 0 < NO := View.dmaCredit_pos _ (by decide)

/-! ## The blocks of `w` -/

/-- Column block `e` of `w`; -/
def col (e : Dev nD) : sProp 𝕄 := own c (wC e) (wcv m c e)
omit [FloatOps F] in
/-- slot `k` free; -/
def wfree (k : Fin 4) : sProp 𝕄 := iprop(some_ (F := F) c (wQ k) ∗ semVal ((c : Thread nD τ), .dma (wSem k)) 0)
/-- block `e` on its way to slot `k`; -/
def wfly (e : Dev nD) (k : Fin 4) : sProp 𝕄 :=
  Transfers.Flight EC (c : Thread nD τ) (.dma (wSem k)) () NW iprop(own c (wQ k) (wcv m c e) ∗ own c (wC e) (wcv m c e))
/-- and block `e` in slot `k`. -/
def wrdy (e : Dev nD) (k : Fin 4) : sProp 𝕄 := iprop(own c (wS k) (wl m c e) ∗ semVal ((c : Thread nD τ), .dma (wSem k)) 0)

theorem wfree_of (e : Dev nD) (k : Fin 4) : (wrdy m c e k : sProp 𝕄) ⊢ wfree c k := by
  unfold wrdy wfree
  iintro ⟨H, Hv⟩
  isplitl [H]
  · iapply (some_unsqueeze c (wS k) squeezes_S1x4096x256_S4096x256); iapply (some_of c (wS k)) $$ H
  iexact Hv

section St
variable {α : Type} {Q : α → sProp (MT nD τ sig Unit (Elt F) ℕ UU ℕ)}

theorem st_fetch (e : Dev nD) (k : Fin 4) {src' : Memref sig .tc .hbm S4096x256 .f32} {dst' : Memref sig .tc .vmem S4096x256 .f32} {sm' : DmaSem sig}
    (hs : src' = wC e) (hd : dst' = wQ k) (hsm : sm' = wSem k)
    {hsrc : src'.view.WordExact} {hdst : dst'.view.WordExact} {hsem : DmaTarget.Typed (nD := nD) (τ := τ) (p := .tc) .hbm (.dma sm') (.here dst')}
    {kk : PUnit → Prog (TpuEff nD τ sig (Elt F) Λ₀ .tc) α} :
    (col m c e : sProp 𝕄) ⊢ iprop(wfree c k -∗ (wfly m c e k -∗ WP c (kk ⟨⟩) Q) -∗ WP c (.op (.enqueueDma src' (.here dst') (.dma sm') hsrc hdst hsem) kk) Q) := by
  iintro Hc Hf
  unfold col wfree wfly
  icases Hf with ⟨Hd, Hv⟩
  iapply (op_copy c hs hd hsm (n := NW) rfl NW_pos) $$ [Hc Hd Hv]
  isplitl [Hc]; · iexact Hc
  isplitl [Hd] <;> iassumption

theorem st_fetched (e : Dev nD) (k : Fin 4) {sp' : Space} {s' : Shape} {t' : EltTy} {sm' : DmaSem sig} (hsm : sm' = wSem k)
    {srcw : Memref sig .tc sp' s' t'} {hsrc : srcw.view.WordExact} {hdst : (wQ k).view.WordExact}
    {O : CellTallies nD τ sig Unit} (hO : Above 0 O) {kk : PUnit → Prog (TpuEff nD τ sig (Elt F) Λ₀ .tc) α} :
    (ctx m K : sProp 𝕄) ⊢ iprop(wfly m c e k -∗ owing c O -∗ ((wrdy m c e k ∗ col m c e ∗ owing c O) -∗ WP c (kk ⟨⟩) Q)
      -∗ WP c (.op (.waitDma2 sm' srcw (wQ k) hsrc hdst) kk) Q) := by
  iintro #HC Hf HO Hk
  unfold wfly wrdy col
  iapply (op_wait c (n := NW) (dstw := wQ k) hsm rfl ((show ∀ k : Fin 4, (wSem k).val < 22 by decide) k) hO) $$ [Hf HO]
  · isplitr; · iapply (ctx_lev m K); iexact HC
    isplitl [Hf] <;> iassumption
  iintro ⟨⟨Hd, Hs⟩, Hv, HO⟩
  iapply Hk
  isplitl [Hd Hv]
  · isplitl [Hd]
    · ihave Hd' := (Entails.of_eq (own_unsqueeze c (wS k) squeezes_S1x4096x256_S4096x256 (wcv m c e))) $$ Hd
      unfold wl; iexact Hd'
    iexact Hv
  isplitl [Hs] <;> iassumption

theorem st_loadw (e : Dev nD) (k : Fin 4) {hl : (wV : Memref sig .tc .vmem S4x4096x256 .f32).view.LoadsAt (wSlotR k)}
    {kk : (S1x4096x256.Idx → Elt F .f32) → Prog (TpuEff nD τ sig (Elt F) Λ₀ .tc) α} :
    (wrdy m c e k : sProp 𝕄) ⊢ iprop((wfree (F := F) c k -∗ WP c (kk (wl m c e)) Q) -∗ WP c (.op (.load wV (wSlotR k).toLoadRect hl) kk) Q) := by
  iintro H Hk
  ihave H' := (show (wrdy m c e k : sProp 𝕄) ⊢ iprop(own c (wS k) (wl m c e) ∗ semVal ((c : Thread nD τ), .dma (wSem k)) 0) from Entails.of_eq (by unfold wrdy; rfl)) $$ H
  icases H' with ⟨H, Hv⟩
  iapply (op_load c (M := wV) (r := wSlotR k) (S := wS k) rfl) $$ H
  iintro H
  iapply Hk
  iapply (wfree_of m c e k)
  unfold wrdy
  isplitl [H] <;> iassumption

/-- A value read and not used leaves everything as it was. -/
theorem st_skim {cs : CoreSpace} {s : Shape} {e : EltTy} {M : Memref sig .tc cs s e} {r : Rect s} {hl : M.view.LoadsAt r} {hr : ∀ a, r.stride a = 1}
    {p : Prog (TpuEff nD τ sig (Elt F) Λ₀ .tc) α} {S : Memref sig .tc cs r.shape e} (hS : M.slice r hr = S) :
    (some_ (F := F) c S : sProp 𝕄) ⊢ iprop((some_ (F := F) c S -∗ WP c p Q) -∗ WP c (.op (.load M r hl) (fun _ => p)) Q) := by
  unfold some_
  iintro ⟨%X, H⟩ Hk
  iapply (op_load c hS) $$ H
  iintro H
  iapply Hk
  iexists X; iexact H

theorem st_ret (a : α) : Q a ⊢ WP c (Prog.ret a) Q := by
  unfold WP; rw [wp_ret]; iintro H; imodintro; iexact H

/-! ## Whole buffers -/

/-- A load of a whole buffer, through the rectangle at zero of the buffer's own sizes. -/
theorem st_whole {cs : CoreSpace} {i : Fin (sig.nNear .tc cs)} {hκ : sig.names .tc cs i = true}
    {off : Fin (Ref.ty (⟨cs, i, hκ⟩ : Ref sig .tc)).shape.rank → ℕ} (h : off = fun _ => 0)
    {inb : ∀ a, off a + (Ref.ty (⟨cs, i, hκ⟩ : Ref sig .tc)).shape.size a ≤ (Ref.ty (⟨cs, i, hκ⟩ : Ref sig .tc)).shape.size a}
    {hl : (Memref.whole ⟨cs, i, hκ⟩ : Memref sig .tc _ _ _).view.LoadsAt (Rect.unit off (Ref.ty (⟨cs, i, hκ⟩ : Ref sig .tc)).shape.size inb).toLoadRect}
    {k : (Ref.ty (⟨cs, i, hκ⟩ : Ref sig .tc)).Contents (Elt F) → Prog (TpuEff nD τ sig (Elt F) Λ₀ .tc) α}
    {f : (Ref.ty (⟨cs, i, hκ⟩ : Ref sig .tc)).Contents (Elt F)} :
    (((c : Thread nD τ).loc (⟨cs, i, hκ⟩ : Ref sig .tc)) ↦{fullShare} f : sProp 𝕄)
      ⊢ iprop(((((c : Thread nD τ).loc (⟨cs, i, hκ⟩ : Ref sig .tc)) ↦{fullShare} f) -∗ WP c (k f) Q)
        -∗ WP c (.op (.load (Memref.whole ⟨cs, i, hκ⟩) (Rect.unit off (Ref.ty (⟨cs, i, hκ⟩ : Ref sig .tc)).shape.size inb).toLoadRect hl) k) Q) := by
  iintro H Hk
  iapply (wp_load 𝒱₀ (c : Thread nD τ) none Set.univ (m := Memref.whole ⟨cs, i, hκ⟩) (S := Finset.univ) (Finset.subset_univ _)) $$ H
  iintro H
  rw [Memref.readAt_unit_zero (Elt F) (⟨cs, i, hκ⟩ : Ref sig .tc) h inb f]
  iapply Hk; iexact H

/-- The rows of `x` on their way into their buffer. -/
def xfly : sProp 𝕄 :=
  Transfers.Flight EC (c : Thread nD τ) (.dma xSem) () NX iprop(own c xV (xv m c) ∗ own c xH (xv m c))

/-! ## Sending a block of the result -/

/-- What sending at step `st` takes: the staging slot, the receiver's slot, and the two tokens; -/
def toSend (st : Fin 7) : sProp 𝕄 :=
  iprop(some_ (F := F) c (sS st) ∗ some_ (F := F) (peer c (st.val + 1)) (rQ c)
    ∗ dutyTok ER (sendCell c st) 0 c ∗ dutyTok ER (recvCell (peer c (st.val + 1)) c) 0 c)
/-- the same with the block in the staging slot; -/
def staged (st : Fin 7) : sProp 𝕄 :=
  iprop(own c (sS st) (yb m c (peer c (st.val + 1))) ∗ some_ (F := F) (peer c (st.val + 1)) (rQ c)
    ∗ dutyTok ER (sendCell c st) 0 c ∗ dutyTok ER (recvCell (peer c (st.val + 1)) c) 0 c)
/-- and the departure that is left to wait for. -/
def sent (st : Fin 7) : sProp 𝕄 := cred (tallyAt (sendCell c st) () N)

/-- The block stored in its staging slot, after the read of what the slot held. -/
theorem st_stage (st : Fin 7) {hl : (sV : Memref sig .tc .vmem S7x512x256 .bf16).view.LoadsAt (sSlotR st)}
    {w : S1x512x256.Idx → Elt F .bf16} (hw : w = yb m c (peer c (st.val + 1)))
    {hx : ((sV : Memref sig .tc .vmem S7x512x256 .bf16).access (sSlotR st)).Stores Finset.univ}
    {hm : (Finset.univ : Finset (sSlotR st).shape.Idx) = Finset.univ ∨ ∀ a, (sSlotR st).stride a = 1}
    {kk : PUnit → Prog (TpuEff nD τ sig (Elt F) Λ₀ .tc) α} :
    (toSend (F := F) c st : sProp 𝕄) ⊢ iprop((staged m c st -∗ WP c (kk ⟨⟩) Q)
      -∗ WP c (.op (.load sV (sSlotR st).toLoadRect hl) (fun _ => .op (.store sV (sSlotR st) w Finset.univ hx hm) kk)) Q) := by
  subst hw
  unfold toSend staged
  iintro ⟨H, Hrest⟩ Hk
  iapply (st_skim c (M := sV) (r := sSlotR st) (S := sS st) rfl) $$ H
  iintro H
  iapply (op_store c (M := sV) (r := sSlotR st) (S := sS st) rfl) $$ H
  iintro H
  iapply Hk
  isplitl [H] <;> iassumption

theorem st_send (st : Fin 7) {n : Dev nD} (hn : n = peer c (st.val + 1)) {o : ℕ} (ho : o + st.val = 6)
    {src' : Memref sig .tc .vmem S512x256 .bf16} {dst' : Memref sig .tc .vmem S512x256 .bf16}
    {ss sr : DmaSem sig} (hsrc : src' = sQ st) (hdst : dst' = rQ c) (hss : ss = sSem st) (hsr : sr = rSem c)
    {hsc : (dst' : Memref sig (Dev.tc n : Thread nD τ).2.kind .vmem S512x256 .bf16).view.ref.isScScratch = false}
    {hx : src'.view.WordExact} {hy : dst'.view.WordExact}
    {hsem : DmaTarget.Typed .vmem (.dma sr) (.remote (Dev.tc n : Thread nD τ) (dst' : Memref sig .tc .vmem S512x256 .bf16) (.dma ss) hsc)}
    {kk : PUnit → Prog (TpuEff nD τ sig (Elt F) Λ₀ .tc) α} :
    (ctx m K : sProp 𝕄) ⊢ iprop(staged m c st -∗ owing c (OS c (o + 1)) -∗ ((sent (F := F) c st ∗ owing c (OS c o)) -∗ WP c (kk ⟨⟩) Q)
      -∗ WP c (.op (.enqueueDma src' (.remote (Dev.tc n : Thread nD τ) dst' (.dma ss) hsc) (.dma sr) hx hy hsem) kk) Q) := by
  unfold staged sent
  rw [show OS c (o + 1) = OS c o + tallyAt (recvCell (peer c (st.val + 1)) c) () N by
    rw [OS, show 7 - o = st.val + 1 by omega]]
  iintro #HC ⟨H1, H2, H3, H4⟩ HO
  iapply (op_send m K c st hn hsrc hdst hss hsr (OS c o)) $$ [H1 H2 H3 H4 HO]
  isplitr; · iexact HC
  isplitl [H1]; · iexact H1
  isplitl [H2]; · iexact H2
  isplitl [HO]; · iexact HO
  isplitl [H3] <;> iassumption

/-- The wait for the departure of step `st`. -/
theorem st_left (st : Fin 7) {sp' : Space} {s' : Shape} {t' : EltTy} {sm' : DmaSem sig} (hsm : sm' = sSem st)
    {srcw : Memref sig .tc sp' s' t'} {hsrc : srcw.view.WordExact} {hdst : (sQ st).view.WordExact}
    {kk : PUnit → Prog (TpuEff nD τ sig (Elt F) Λ₀ .tc) α} :
    (ctx m K : sProp 𝕄) ⊢ iprop(atPos ER (sendCell c st) 0 ∅ 0 -∗ sent (F := F) c st -∗ owing c 0
      -∗ ((semVal (sendCell c st) 0 ∗ some_ (F := F) c (sS st) ∗ owing c 0) -∗ WP c (kk ⟨⟩) Q)
      -∗ WP c (.op (.waitDma2 sm' srcw (sQ st) hsrc hdst) kk) Q) := by
  unfold sent
  iintro #HC Hp Hc HO
  iapply (op_sendwait m K c st hsm (N_send st)) $$ [Hp Hc HO]
  isplitr; · iexact HC
  isplitl [Hp]; · iexact Hp
  isplitl [Hc] <;> iassumption

/-! ## Raising the barrier -/

/-- What raising the barrier of device `p` takes. -/
def toSig (p : Dev nD) : sProp 𝕄 := iprop(dutyTok ER (barCell p) 0 c ∗ some_ (F := F) c (rQ p))

theorem st_signal (k : ℕ) (hp : peer c k ≠ c) {n : Dev nD} (hn : n = peer c k) {o : ℕ} (ho : o + k = 7) {j : ℕ} (hj : 1 = j)
    {kk : PUnit → Prog (TpuEff nD τ sig (Elt F) Λ₀ .tc) α} :
    (ctx m K : sProp 𝕄) ⊢ iprop(toSig (F := F) c (peer c k) -∗ owing c (OB c (o + 1)) -∗ (owing c (OB c o) -∗ WP c (kk ⟨⟩) Q)
      -∗ WP c (.op (.semSignal (Dev.tc n : Thread nD τ) bSem j) kk) Q) := by
  unfold toSig
  rw [show OB c (o + 1) = OB c o + tallyAt (barCell (peer c k)) () 1 by
    rw [OB, show 7 - o = k by omega]]
  iintro #HC ⟨H1, H2⟩ HO
  iapply (op_signal m K c hn hp hj (OB c o)) $$ [H1 H2 HO]
  isplitr; · iexact HC
  isplitl [H1]; · iexact H1
  isplitl [H2] <;> iassumption

/-! ## The blocks of the result, out of the staging buffer -/

/-- What block `e` of the result needs on its way out: its staging slot, its rows of the result and its cell; -/
def toOut (e : Dev nD) : sProp 𝕄 :=
  iprop(some_ (F := F) c (yS e) ∗ some_ (F := F) c (oR e) ∗ semVal ((c : Thread nD τ), .dma (oSem e)) 0)
/-- block `e` on its way; -/
def outfly (e : Dev nD) : sProp 𝕄 :=
  Transfers.Flight EC (c : Thread nD τ) (.dma (oSem e)) () NO iprop(own c (oR e) (outq m c e) ∗ own c (yQ e) (outq m c e))
/-- and in place. -/
def outdone (e : Dev nD) : sProp 𝕄 :=
  iprop(own c (oR e) (outq m c e) ∗ some_ (F := F) c (yS e) ∗ semVal ((c : Thread nD τ), .dma (oSem e)) 0)

theorem outs_self : outs m c c = k0_pay15 (scl m c) (xf m c) (wl m c c) := if_pos rfl
theorem outs_ne {e : Dev nD} (he : e ≠ c) : outs m c e = k0_pay16 (yb m e c) := if_neg he

/-- The last three steps of a block: the read of what the slot held, the store and the copy. -/
theorem st_out (e : Dev nD) {off6 : Fin 1 → ℕ} (h6 : off6 = ![e.val]) {off7 off8 : Fin 3 → ℕ} (h7 : off7 = ![e.val, 0, 0]) (h8 : off8 = ![e.val, 0, 0])
    {off9 : Fin 2 → ℕ} (h9 : off9 = ![512 * e.val, 0]) {inb6} {inb7} {inb8} {inb9} {w : S1x512x256.Idx → Elt F .f32} (hw : w = outs m c e)
    {hl : (yV : Memref sig .tc .vmem S8x512x256 .f32).view.LoadsAt (Rect.unit (s := S8x512x256) off8 S1x512x256.size inb8)}
    {hx : ((yV : Memref sig .tc .vmem S8x512x256 .f32).access (Rect.unit (s := S8x512x256) off8 S1x512x256.size inb8)).Stores Finset.univ}
    {hm : (Finset.univ : Finset (Rect.unit (s := S8x512x256) off8 S1x512x256.size inb8).shape.Idx) = Finset.univ
      ∨ ∀ a, (Rect.unit (s := S8x512x256) off8 S1x512x256.size inb8).stride a = 1}
    {hsrc : ((yV.slice (Rect.unit (s := S8x512x256) off7 S1x512x256.size inb7) (fun _ => rfl)).squeeze S512x256 squeezes_S1x512x256_S512x256).view.WordExact}
    {hdst : (oH.slice (Rect.unit (s := S4096x256) off9 S512x256.size inb9) (fun _ => rfl)).view.WordExact}
    {hsem : DmaTarget.Typed (nD := nD) (τ := τ) (p := .tc) .vmem
      (.dma (((cc0_scratch7 : DmaSems sig S8).slice (Rect.unit (s := S8) off6 S1.size inb6)).squeeze S_ squeezes_S1_S_).sem)
      (.here (oH.slice (Rect.unit (s := S4096x256) off9 S512x256.size inb9) (fun _ => rfl)))}
    {kk : PUnit → Prog (TpuEff nD τ sig (Elt F) Λ₀ .tc) α} :
    (toOut (F := F) c e : sProp 𝕄) ⊢ iprop((outfly m c e -∗ WP c (kk ⟨⟩) Q)
      -∗ WP c (.op (.load yV (Rect.unit (s := S8x512x256) off8 S1x512x256.size inb8).toLoadRect hl) (fun _ =>
          .op (.store yV (Rect.unit (s := S8x512x256) off8 S1x512x256.size inb8) w Finset.univ hx hm) (fun _ =>
            .op (.enqueueDma ((yV.slice (Rect.unit (s := S8x512x256) off7 S1x512x256.size inb7) (fun _ => rfl)).squeeze S512x256 squeezes_S1x512x256_S512x256)
              (.here (oH.slice (Rect.unit (s := S4096x256) off9 S512x256.size inb9) (fun _ => rfl)))
              (.dma (((cc0_scratch7 : DmaSems sig S8).slice (Rect.unit (s := S8) off6 S1.size inb6)).squeeze S_ squeezes_S1_S_).sem) hsrc hdst hsem) kk))) Q) := by
  subst h7 h8 h9 hw
  unfold toOut outfly
  iintro ⟨H, Ho, Hv⟩ Hk
  iapply (st_skim c (M := yV) (r := eSlotR e) (S := yS e) rfl) $$ H
  iintro H
  iapply (op_store c (M := yV) (r := eSlotR e) (S := yS e) rfl) $$ H
  iintro H
  ihave H' := (Entails.of_eq (own_squeeze c (yS e) squeezes_S1x512x256_S512x256 (outs m c e)).symm) $$ H
  iapply (op_copy c (src := yQ e) (dst := oR e) rfl rfl (oSem_eq e h6 _) (n := NO) rfl NO_pos (X := outq m c e)) $$ [H' Ho Hv]
  · isplitl [H']
    · unfold outq; iexact H'
    isplitl [Ho] <;> iassumption
  iexact Hk

theorem st_landed (e : Dev nD) {sp' : Space} {s' : Shape} {t' : EltTy} {sm' : DmaSem sig} (hsm : sm' = oSem e)
    {srcw : Memref sig .tc sp' s' t'} {off9 : Fin 2 → ℕ} {inb9} {hsrc : srcw.view.WordExact} {hdst : (oH.slice (Rect.unit (s := S4096x256) off9 S512x256.size inb9) (fun _ => rfl)).view.WordExact}
    {kk : PUnit → Prog (TpuEff nD τ sig (Elt F) Λ₀ .tc) α} :
    (ctx m K : sProp 𝕄) ⊢ iprop(outfly m c e -∗ owing c 0 -∗ ((outdone m c e ∗ owing c 0) -∗ WP c (kk ⟨⟩) Q)
      -∗ WP c (.op (.waitDma2 sm' srcw (oH.slice (Rect.unit (s := S4096x256) off9 S512x256.size inb9) (fun _ => rfl)) hsrc hdst) kk) Q) := by
  iintro #HC Hf HO Hk
  unfold outfly outdone
  iapply (op_wait c (n := NO) (dstw := (oH.slice (Rect.unit (s := S4096x256) off9 S512x256.size inb9) (fun _ => rfl))) hsm rfl ((show ∀ e : Dev nD, (oSem e).val < 22 by decide) e) (above_zero 0)) $$ [Hf HO]
  · isplitr; · iapply (ctx_lev m K); iexact HC
    isplitl [Hf] <;> iassumption
  iintro ⟨⟨Hd, Hs⟩, Hv, HO⟩
  iapply Hk
  isplitr [HO]
  · isplitl [Hd]; · iexact Hd
    isplitl [Hs]
    · iapply (some_squeeze c (yS e) squeezes_S1x512x256_S512x256); iapply (some_of c (yQ e)) $$ Hs
    iexact Hv
  iexact HO

/-- What taking the block of device `e` needs; -/
def toTake (e : Dev nD) : sProp 𝕄 := iprop(atPos ER (recvCell c e) 0 ∅ 0 ∗ cred (tallyAt (recvCell c e) () N) ∗ toOut (F := F) c e)
/-- and what it leaves. -/
def taken (e : Dev nD) : sProp 𝕄 := iprop(semVal (recvCell c e) 0 ∗ own c (rS e) (yb m e c) ∗ outfly m c e)

theorem st_take {e : Dev nD} (he : e ≠ c) {off6 : Fin 1 → ℕ} (h6 : off6 = ![e.val]) {off7 off8 : Fin 3 → ℕ} (h7 : off7 = ![e.val, 0, 0]) (h8 : off8 = ![e.val, 0, 0])
    {off9 : Fin 2 → ℕ} (h9 : off9 = ![512 * e.val, 0]) {inb6} {inb6'} {inb7} {inb8} {inb9} {sp' : Space} {s' : Shape} {t' : EltTy} {srcw : Memref sig .tc sp' s' t'}
    {w : (S1x512x256.Idx → Elt F .bf16) → S1x512x256.Idx → Elt F .f32} (hw : w = k0_pay16)
    {hwsrc : srcw.view.WordExact}
    {hwdst : ((rV.slice (Rect.unit (s := S8x512x256) off7 S1x512x256.size inb7) (fun _ => rfl)).squeeze S512x256 squeezes_S1x512x256_S512x256).view.WordExact}
    {hlr : (rV : Memref sig .tc .vmem S8x512x256 .bf16).view.LoadsAt (Rect.unit (s := S8x512x256) off8 S1x512x256.size inb8)}
    {hl : (yV : Memref sig .tc .vmem S8x512x256 .f32).view.LoadsAt (Rect.unit (s := S8x512x256) off8 S1x512x256.size inb8)}
    {hx : ((yV : Memref sig .tc .vmem S8x512x256 .f32).access (Rect.unit (s := S8x512x256) off8 S1x512x256.size inb8)).Stores Finset.univ}
    {hm : (Finset.univ : Finset (Rect.unit (s := S8x512x256) off8 S1x512x256.size inb8).shape.Idx) = Finset.univ
      ∨ ∀ a, (Rect.unit (s := S8x512x256) off8 S1x512x256.size inb8).stride a = 1}
    {hsrc : ((yV.slice (Rect.unit (s := S8x512x256) off7 S1x512x256.size inb7) (fun _ => rfl)).squeeze S512x256 squeezes_S1x512x256_S512x256).view.WordExact}
    {hdst : (oH.slice (Rect.unit (s := S4096x256) off9 S512x256.size inb9) (fun _ => rfl)).view.WordExact}
    {hsem : DmaTarget.Typed (nD := nD) (τ := τ) (p := .tc) .vmem
      (.dma (((cc0_scratch7 : DmaSems sig S8).slice (Rect.unit (s := S8) off6 S1.size inb6)).squeeze S_ squeezes_S1_S_).sem)
      (.here (oH.slice (Rect.unit (s := S4096x256) off9 S512x256.size inb9) (fun _ => rfl)))}
    {kk : PUnit → Prog (TpuEff nD τ sig (Elt F) Λ₀ .tc) α} :
    (ctx m K : sProp 𝕄) ⊢ iprop(toTake (F := F) c e -∗ owing c 0 -∗ ((taken m c e ∗ owing c 0) -∗ WP c (kk ⟨⟩) Q)
      -∗ WP c (.op (.waitDma2 (((cc0_scratch9 : DmaSems sig S8).slice (Rect.unit (s := S8) off6 S1.size inb6')).squeeze S_ squeezes_S1_S_).sem srcw
          ((rV.slice (Rect.unit (s := S8x512x256) off7 S1x512x256.size inb7) (fun _ => rfl)).squeeze S512x256 squeezes_S1x512x256_S512x256) hwsrc hwdst) (fun _ =>
        .op (.load rV (Rect.unit (s := S8x512x256) off8 S1x512x256.size inb8).toLoadRect hlr) (fun v =>
        .op (.load yV (Rect.unit (s := S8x512x256) off8 S1x512x256.size inb8).toLoadRect hl) (fun _ =>
          .op (.store yV (Rect.unit (s := S8x512x256) off8 S1x512x256.size inb8) (w v) Finset.univ hx hm) (fun _ =>
            .op (.enqueueDma ((yV.slice (Rect.unit (s := S8x512x256) off7 S1x512x256.size inb7) (fun _ => rfl)).squeeze S512x256 squeezes_S1x512x256_S512x256)
              (.here (oH.slice (Rect.unit (s := S4096x256) off9 S512x256.size inb9) (fun _ => rfl)))
              (.dma (((cc0_scratch7 : DmaSems sig S8).slice (Rect.unit (s := S8) off6 S1.size inb6)).squeeze S_ squeezes_S1_S_).sem) hsrc hdst hsem) kk))))) Q) := by
  iintro #HC Ht HO Hk
  unfold toTake taken
  icases Ht with ⟨Hp, Hc, Ho⟩
  iapply (op_recvwait m K c he (dstw := (rV.slice (Rect.unit (s := S8x512x256) off7 S1x512x256.size inb7) (fun _ => rfl)).squeeze S512x256 squeezes_S1x512x256_S512x256)
    (rSem_eq e h6 _) rfl) $$ [Hp Hc HO]
  · isplitr; · iexact HC
    isplitl [Hp]; · iexact Hp
    isplitl [Hc] <;> iassumption
  iintro ⟨Hv, Hr, HO⟩
  iapply (op_load c (M := rV) (S := rV.slice (Rect.unit (s := S8x512x256) off8 S1x512x256.size inb8) (fun _ => rfl)) (X := yb m e c) rfl) $$ [Hr]
  · subst h8; iexact Hr
  iintro Hr
  iapply (st_out m c e h6 h7 h8 h9 (show w (yb m e c) = outs m c e by rw [hw, outs_ne m c he])) $$ Ho
  iintro Ho
  iapply Hk
  isplitr [HO]
  · isplitl [Hv]; · iexact Hv
    isplitl [Hr]
    · subst h8; iexact Hr
    iexact Ho
  iexact HO

end St

end Cert.KernelIdeal.Exchange
-- ==== Proof.KernelIdeal.Parts.lean ====
/-
The parts of the kernel's body, in program order: what each takes and what it leaves, on a symbolic device.
-/
module

public import proofs.«01_k».proof.Proof.KernelIdeal.Steps

@[expose] public section

set_option maxRecDepth 65536

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged scales. -/
abbrev gxV : Memref sig .tc .smem S1 .f32 := Memref.whole cc0_stg0_0
abbrev gwV : Memref sig .tc .smem S1 .f32 := Memref.whole cc0_stg1_0

variable (m : (ℓ : Loc nD τ sig) → Buf (Elt F) ℓ) (K : Dev nD × CI → ℕ) (c : Dev nD)
/-- The barrier's cell as the kernel names it. -/
abbrev bV : Sems sig S_ := SemArray.scalar (sig.barrier 0 rfl)

theorem off1_own (c : Dev nD) : k0_off1 c 7#32 = ![0, 256 * c.val] :=
  (off1_eq c 7).trans (congrArg (fun e : Dev nD => ![0, 256 * e.val]) (peer_last c))
theorem above0_OS (c : Dev nD) (n : ℕ) : Above 0 (OS c n) := above_mono (above_OS c n)

variable (h0 : xH.IsWhole) (h1 : wH.IsWhole) (h2 : gxV.IsWhole) (h3 : gwV.IsWhole) (h4 : oH.IsWhole) (h5 : xV.IsWhole)
  (h6 : wV.IsWhole) (h7 : sV.IsWhole) (h8 : rV.IsWhole) (h9 : yV.IsWhole)

/-- A scale in its buffer. -/
def gx : sProp 𝕄 := ((c : Thread nD τ).loc cc0_stg0_0) ↦{fullShare} (stx m c)
def gw : sProp 𝕄 := ((c : Thread nD τ).loc cc0_stg1_0) ↦{fullShare} (stw m c)

theorem part1  {Q : (Σ' (d0 : Dev nD) (v2 : BitVec 32) (v5 : F .f32) (v27 : BitVec 32) (v28 : BitVec 32) (v29 : BitVec 1) (v30 : BitVec 1), BitVec 32) → sProp (MT nD τ sig Unit (Elt F) ℕ UU ℕ)} :
    (ctx m K : sProp 𝕄) ⊢ iprop(gx m c -∗ gw m c -∗ own c xH (xv m c) -∗ some_ (F := F) c xV -∗ semVal ((c : Thread nD τ), .dma xSem) 0 -∗ col m c (peer c 1) -∗ wfree (F := F) c 0 -∗ (∀ (v2 v27 v28 : BitVec 32) (v29 v30 : BitVec 1) (w : BitVec 32), (gx m c ∗ gw m c ∗ xfly m c ∗ wfly m c (peer c 1) 0) -∗ Q ⟨c, v2, scl m c, v27, v28, v29, v30, w⟩)
      -∗ WP c (k0_part1 xH h0 wH h1 gxV h2 gwV h3 oH h4 xV h5 wV h6 sV h7 rV h8 yV h9 cc0_scratch5 cc0_scratch6 cc0_scratch7 cc0_scratch8 cc0_scratch9 ) Q) := by
  rw [k0_part1_eq_skeleton]
  unfold k0_part1_skel
  simp only [smemLoad, smemLoadElt, semSignalWord, semWaitWord, Prog.lift, Prog.bind_op, Prog.bind_ret, Prog.pure_eq_ret, wp_deviceId]
  iintro #HC Hgx Hgw Hx Hxv Hs Hcol Hw Hk
  unfold gx gw xfly scl
  iapply (st_whole c (i := cc0_stg0_0.idx) (h := by funext a; fin_cases a; rfl)) $$ Hgx
  iintro Hgx
  iapply (st_whole c (i := cc0_stg1_0.idx) (h := by funext a; fin_cases a; rfl)) $$ Hgw
  iintro Hgw
  iapply (op_copy c (src := xH) (dst := xV) (X := xv m c) rfl rfl xSem_eq (n := NX) rfl NX_pos) $$ [Hx Hxv Hs]
  · isplitl [Hx]; · iexact Hx
    isplitl [Hxv] <;> iassumption
  iintro Hxf
  iapply (st_fetch m c (peer c 1) 0 (Memref.slice_unit_congr wH (off1_eq c 0) _ _ _ _) rfl (wSem_eq 0 _)) $$ Hcol Hw
  iintro Hwf
  iapply (st_ret c)
  iapply Hk
  isplitl [Hgx]; · iexact Hgx
  isplitl [Hgw]; · iexact Hgw
  isplitl [Hxf] <;> iassumption

theorem part2 {v2 v27 v28 : BitVec 32} {v29 v30 : BitVec 1} {w : BitVec 32} {Q : (Σ' (v42 : Sems sig S_) (v59 : BitVec 32) (v64 : BitVec 1), BitVec 32) → sProp (MT nD τ sig Unit (Elt F) ℕ UU ℕ)} :
    (ctx m K : sProp 𝕄) ⊢ iprop(col m c (peer c 2) -∗ wfree (F := F) c 1 -∗ toSig (F := F) c (peer c 1) -∗ owing c (OB c 7) -∗ (∀ (a : BitVec 32) (b : BitVec 1) (d : BitVec 32), (wfly m c (peer c 2) 1 ∗ owing c (OB c 6)) -∗ Q ⟨bV, a, b, d⟩)
      -∗ WP c (k0_part2 xH h0 wH h1 gxV h2 gwV h3 oH h4 xV h5 wV h6 sV h7 rV h8 yV h9 cc0_scratch5 cc0_scratch6 cc0_scratch7 cc0_scratch8 cc0_scratch9 c v2 v27 v28 v29 v30 w) Q) := by
  rw [k0_part2_eq_skeleton]
  unfold k0_part2_skel
  simp only [smemLoad, smemLoadElt, semSignalWord, semWaitWord, Prog.lift, Prog.bind_op, Prog.bind_ret, Prog.pure_eq_ret, wp_deviceId]
  iintro #HC Hcol Hw Hs HO Hk
  iapply (st_fetch m c (peer c 2) 1 (Memref.slice_unit_congr wH (off1_eq c 1) _ _ _ _) rfl (wSem_eq 1 _)) $$ Hcol Hw
  iintro Hw
  iapply (st_signal m K c 1 (peer_ne c 0) (dev1_eq c) (o := 6) rfl rfl) $$ HC Hs HO
  iintro HO
  iapply (st_ret c)
  iapply Hk
  isplitl [Hw] <;> [iexact Hw; iexact HO]

theorem part3 {v2 v59 : BitVec 32} {v64 : BitVec 1} {v65 : BitVec 32} {Q : (Σ' (v95 : BitVec 32) (c8_i32_64 : BitVec 32), BitVec 1) → sProp (MT nD τ sig Unit (Elt F) ℕ UU ℕ)} :
    (ctx m K : sProp 𝕄) ⊢ iprop(toSig (F := F) c (peer c 2) -∗ toSig (F := F) c (peer c 3) -∗ toSig (F := F) c (peer c 4) -∗ owing c (OB c 6) -∗ (∀ (a b : BitVec 32) (d : BitVec 1), owing c (OB c 3) -∗ Q ⟨a, b, d⟩)
      -∗ WP c (k0_part3 xH h0 wH h1 gxV h2 gwV h3 oH h4 xV h5 wV h6 sV h7 rV h8 yV h9 cc0_scratch5 cc0_scratch6 cc0_scratch7 cc0_scratch8 cc0_scratch9 c v2 bV v59 v64 v65) Q) := by
  rw [k0_part3_eq_skeleton]
  unfold k0_part3_skel
  simp only [smemLoad, smemLoadElt, semSignalWord, semWaitWord, Prog.lift, Prog.bind_op, Prog.bind_ret, Prog.pure_eq_ret, wp_deviceId]
  iintro #HC H2 H3 H4 HO Hk
  iapply (st_signal m K c 2 (peer_ne c 1) (dev2_eq c) (o := 5) rfl rfl) $$ HC H2 HO
  iintro HO
  iapply (st_signal m K c 3 (peer_ne c 2) (dev3_eq c) (o := 4) rfl rfl) $$ HC H3 HO
  iintro HO
  iapply (st_signal m K c 4 (peer_ne c 3) (dev4_eq c) (o := 3) rfl rfl) $$ HC H4 HO
  iintro HO
  iapply (st_ret c)
  iapply Hk
  iexact HO

theorem part4 {v2 v95 w : BitVec 32} {v96 : BitVec 1} {Q : (Σ' (v124 : BitVec 32) (v129 : BitVec 1), BitVec 32) → sProp (MT nD τ sig Unit (Elt F) ℕ UU ℕ)} :
    (ctx m K : sProp 𝕄) ⊢ iprop(toSig (F := F) c (peer c 5) -∗ toSig (F := F) c (peer c 6) -∗ owing c (OB c 3) -∗ (∀ (a : BitVec 32) (b : BitVec 1) (d : BitVec 32), owing c (OB c 1) -∗ Q ⟨a, b, d⟩)
      -∗ WP c (k0_part4 xH h0 wH h1 gxV h2 gwV h3 oH h4 xV h5 wV h6 sV h7 rV h8 yV h9 cc0_scratch5 cc0_scratch6 cc0_scratch7 cc0_scratch8 cc0_scratch9 c v2 bV v95 w v96) Q) := by
  rw [k0_part4_eq_skeleton]
  unfold k0_part4_skel
  simp only [smemLoad, smemLoadElt, semSignalWord, semWaitWord, Prog.lift, Prog.bind_op, Prog.bind_ret, Prog.pure_eq_ret, wp_deviceId]
  iintro #HC H5 H6 HO Hk
  iapply (st_signal m K c 5 (peer_ne c 4) (dev5_eq c) (o := 2) rfl rfl) $$ HC H5 HO
  iintro HO
  iapply (st_signal m K c 6 (peer_ne c 5) (dev6_eq c) (o := 1) rfl rfl) $$ HC H6 HO
  iintro HO
  iapply (st_ret c)
  iapply Hk
  iexact HO

theorem part5 {v2 v124 : BitVec 32} {v129 : BitVec 1} {v130 : BitVec 32} {Q : _ → sProp (MT nD τ sig Unit (Elt F) ℕ UU ℕ)} :
    (ctx m K : sProp 𝕄) ⊢ iprop(toSig (F := F) c (peer c 7) -∗ owing c (OB c 1) -∗ atPos ER (barCell c) 0 ∅ 0 -∗ cred (tallyAt (barCell c) () 7) -∗ xfly m c -∗ wfly m c (peer c 1) 0 -∗ col m c (peer c 3) -∗ wfree (F := F) c 2 -∗ (((semVal (barCell c) 0 ∗ (bigSep (Finset.univ.erase c) fun d : Dev nD => some_ (F := F) d (rQ c)) ∗ owing c (OS c 7)) ∗ (own c xV (xv m c) ∗ own c xH (xv m c) ∗ semVal ((c : Thread nD τ), .dma xSem) 0)
        ∗ wrdy m c (peer c 1) 0 ∗ col m c (peer c 1) ∗ wfly m c (peer c 3) 2) -∗ Q (xf m c))
      -∗ WP c (k0_part5 xH h0 wH h1 gxV h2 gwV h3 oH h4 xV h5 wV h6 sV h7 rV h8 yV h9 cc0_scratch5 cc0_scratch6 cc0_scratch7 cc0_scratch8 cc0_scratch9 c v2 bV v124 v129 v130) Q) := by
  rw [k0_part5_eq_skeleton]
  unfold k0_part5_skel
  simp only [smemLoad, smemLoadElt, semSignalWord, semWaitWord, Prog.lift, Prog.bind_op, Prog.bind_ret, Prog.pure_eq_ret, wp_deviceId]
  iintro #HC H7 HO Hp Hcr Hx Hw Hcol Hw2 Hk
  iapply (st_signal m K c 7 (peer_ne c 6) (dev7_eq c) (o := 0) rfl rfl) $$ HC H7 HO
  iintro HO
  iapply (op_barwait m K c rfl) $$ [Hp Hcr HO]
  · isplitr; · iexact HC
    isplitl [Hp]; · iexact Hp
    isplitl [Hcr]; · iexact Hcr
    iexact HO
  iintro ⟨Hb, Hslots, HO⟩
  unfold xfly
  iapply (op_wait c xSem_eq (n := NX) rfl (by decide) (above0_OS c 7)) $$ [Hx HO]
  · isplitr; · iapply (ctx_lev m K); iexact HC
    isplitl [Hx] <;> iassumption
  iintro ⟨⟨Hxv, Hx⟩, Hxs, HO⟩
  ihave Hxv' := (Entails.of_eq (owns_whole (c : Thread nD τ) cc0_scratch0 fullShare (xv m c))) $$ Hxv
  iapply (st_whole c (i := cc0_scratch0.idx) (h := by funext a; fin_cases a <;> rfl)) $$ Hxv'
  iintro Hxv
  iapply (st_fetched m K c (peer c 1) 0 (wSem_eq 0 _) (above0_OS c 7)) $$ HC Hw HO
  iintro ⟨Hw, Hwc, HO⟩
  iapply (st_fetch m c (peer c 3) 2 (Memref.slice_unit_congr wH (off1_eq c 2) _ _ _ _) rfl (wSem_eq 2 _)) $$ Hcol Hw2
  iintro Hw2
  iapply (st_ret c)
  unfold xf
  iapply Hk
  isplitl [Hb Hslots HO]
  · isplitl [Hb]; · iexact Hb
    isplitl [Hslots] <;> iassumption
  isplitl [Hxv Hx Hxs]
  · isplitl [Hxv]
    · iapply (Entails.of_eq (owns_whole (c : Thread nD τ) cc0_scratch0 fullShare (xv m c)).symm) $$ Hxv
    isplitl [Hx] <;> iassumption
  isplitl [Hw]; · iexact Hw
  isplitl [Hwc] <;> iassumption

theorem part6 {v2 : BitVec 32} {Q : _ → sProp (MT nD τ sig Unit (Elt F) ℕ UU ℕ)} :
    (ctx m K : sProp 𝕄) ⊢ iprop(wrdy m c (peer c 1) 0 -∗ toSend (F := F) c 0 -∗ owing c (OS c 7) -∗ ((wfree (F := F) c 0 ∗ sent (F := F) c 0 ∗ owing c (OS c 6)) -∗ Q ⟨⟩)
      -∗ WP c (k0_part6 xH h0 wH h1 gxV h2 gwV h3 oH h4 xV h5 wV h6 sV h7 rV h8 yV h9 cc0_scratch5 cc0_scratch6 cc0_scratch7 cc0_scratch8 cc0_scratch9 c v2 (scl m c) (xf m c)) Q) := by
  rw [k0_part6_eq_skeleton]
  unfold k0_part6_skel
  simp only [smemLoad, smemLoadElt, semSignalWord, semWaitWord, Prog.lift, Prog.bind_op, Prog.bind_ret, Prog.pure_eq_ret, wp_deviceId]
  iintro #HC Hw Hs HO Hk
  iapply (st_loadw m c (peer c 1) 0) $$ Hw
  iintro Hw
  iapply (st_stage m c 0 rfl) $$ Hs
  iintro Hs
  iapply (st_send m K c 0 (dev8_eq c) (o := 6) rfl rfl (congrArg (fun M : Memref sig .tc .vmem S1x512x256 .bf16 => M.squeeze S512x256 squeezes_S1x512x256_S512x256) (Memref.slice_unit_congr rV (k0_off3_eq c) _ _ _ _)) (sSem_eq 0 _) (rSem_eq c (k0_off2_eq c) _)) $$ HC Hs HO
  iintro ⟨Hs, HO⟩
  iapply (st_ret c)
  iapply Hk
  isplitl [Hw]; · iexact Hw
  isplitl [Hs] <;> [iexact Hs; iexact HO]

theorem part7 {v2 : BitVec 32} {Q : (Σ' (v223 : FVec F S512x256 .f32), BitVec 32) → sProp (MT nD τ sig Unit (Elt F) ℕ UU ℕ)} :
    (ctx m K : sProp 𝕄) ⊢ iprop(wfly m c (peer c 2) 1 -∗ col m c (peer c 4) -∗ wfree (F := F) c 3 -∗ owing c (OS c 6) -∗ (∀ (a : BitVec 32), (wfree (F := F) c 1 ∗ col m c (peer c 2) ∗ wfly m c (peer c 4) 3 ∗ owing c (OS c 6)) -∗ Q ⟨k0_pay4 (scl m c) (xf m c) (wl m c (peer c 2)), a⟩)
      -∗ WP c (k0_part7 xH h0 wH h1 gxV h2 gwV h3 oH h4 xV h5 wV h6 sV h7 rV h8 yV h9 cc0_scratch5 cc0_scratch6 cc0_scratch7 cc0_scratch8 cc0_scratch9 c v2 (scl m c) (xf m c)) Q) := by
  rw [k0_part7_eq_skeleton]
  unfold k0_part7_skel
  simp only [smemLoad, smemLoadElt, semSignalWord, semWaitWord, Prog.lift, Prog.bind_op, Prog.bind_ret, Prog.pure_eq_ret, wp_deviceId]
  iintro #HC Hw Hcol Hw3 HO Hk
  iapply (st_fetched m K c (peer c 2) 1 (wSem_eq 1 _) (above0_OS c 6)) $$ HC Hw HO
  iintro ⟨Hw, Hwc, HO⟩
  iapply (st_fetch m c (peer c 4) 3 (Memref.slice_unit_congr wH (off1_eq c 3) _ _ _ _) rfl (wSem_eq 3 _)) $$ Hcol Hw3
  iintro Hw3
  iapply (st_loadw m c (peer c 2) 1) $$ Hw
  iintro Hw
  iapply (st_ret c)
  iapply Hk
  isplitl [Hw]; · iexact Hw
  isplitl [Hwc]; · iexact Hwc
  isplitl [Hw3] <;> [iexact Hw3; iexact HO]

theorem part8 {v2 w : BitVec 32} {Q : (Σ' (v256 : BitVec 32) (c8_i32_185 : BitVec 32), BitVec 32) → sProp (MT nD τ sig Unit (Elt F) ℕ UU ℕ)} :
    (ctx m K : sProp 𝕄) ⊢ iprop(toSend (F := F) c 1 -∗ owing c (OS c 6) -∗ wfly m c (peer c 3) 2 -∗ (∀ (a b d : BitVec 32), (sent (F := F) c 1 ∗ wrdy m c (peer c 3) 2 ∗ col m c (peer c 3) ∗ owing c (OS c 5)) -∗ Q ⟨a, b, d⟩)
      -∗ WP c (k0_part8 xH h0 wH h1 gxV h2 gwV h3 oH h4 xV h5 wV h6 sV h7 rV h8 yV h9 cc0_scratch5 cc0_scratch6 cc0_scratch7 cc0_scratch8 cc0_scratch9 c v2 (k0_pay4 (scl m c) (xf m c) (wl m c (peer c 2))) w) Q) := by
  rw [k0_part8_eq_skeleton]
  unfold k0_part8_skel
  simp only [smemLoad, smemLoadElt, semSignalWord, semWaitWord, Prog.lift, Prog.bind_op, Prog.bind_ret, Prog.pure_eq_ret, wp_deviceId]
  iintro #HC Hs HO Hw Hk
  iapply (st_stage m c 1 rfl) $$ Hs
  iintro Hs
  iapply (st_send m K c 1 (dev9_eq c) (o := 5) rfl rfl (congrArg (fun M : Memref sig .tc .vmem S1x512x256 .bf16 => M.squeeze S512x256 squeezes_S1x512x256_S512x256) (Memref.slice_unit_congr rV (k0_off3_eq c) _ _ _ _)) (sSem_eq 1 _) (rSem_eq c (k0_off2_eq c) _)) $$ HC Hs HO
  iintro ⟨Hs, HO⟩
  iapply (st_fetched m K c (peer c 3) 2 (wSem_eq 2 _) (above0_OS c 5)) $$ HC Hw HO
  iintro ⟨Hw, Hwc, HO⟩
  iapply (st_ret c)
  iapply Hk
  isplitl [Hs]; · iexact Hs
  isplitl [Hw]; · iexact Hw
  isplitl [Hwc] <;> [iexact Hwc; iexact HO]

theorem part9 {v2 w w1 w2 : BitVec 32} {Q : (Σ' (v280 : FVec F S512x256 .f32), BitVec 32) → sProp (MT nD τ sig Unit (Elt F) ℕ UU ℕ)} :
    (ctx m K : sProp 𝕄) ⊢ iprop(col m c (peer c 5) -∗ wfree (F := F) c 0 -∗ wrdy m c (peer c 3) 2 -∗ (∀ (a : BitVec 32), (wfly m c (peer c 5) 0 ∗ wfree (F := F) c 2) -∗ Q ⟨k0_pay6 (scl m c) (xf m c) (wl m c (peer c 3)), a⟩)
      -∗ WP c (k0_part9 xH h0 wH h1 gxV h2 gwV h3 oH h4 xV h5 wV h6 sV h7 rV h8 yV h9 cc0_scratch5 cc0_scratch6 cc0_scratch7 cc0_scratch8 cc0_scratch9 c v2 (scl m c) (xf m c) w w1 w2) Q) := by
  rw [k0_part9_eq_skeleton]
  unfold k0_part9_skel
  simp only [smemLoad, smemLoadElt, semSignalWord, semWaitWord, Prog.lift, Prog.bind_op, Prog.bind_ret, Prog.pure_eq_ret, wp_deviceId]
  iintro #HC Hcol Hw0 Hw Hk
  iapply (st_fetch m c (peer c 5) 0 (Memref.slice_unit_congr wH (off1_eq c 4) _ _ _ _) rfl (wSem_eq 0 _)) $$ Hcol Hw0
  iintro Hw0
  iapply (st_loadw m c (peer c 3) 2) $$ Hw
  iintro Hw
  iapply (st_ret c)
  iapply Hk
  isplitl [Hw0] <;> [iexact Hw0; iexact Hw]

theorem part10 {v2 w : BitVec 32} {Q : _ → sProp (MT nD τ sig Unit (Elt F) ℕ UU ℕ)} :
    (ctx m K : sProp 𝕄) ⊢ iprop(toSend (F := F) c 2 -∗ owing c (OS c 5) -∗ wfly m c (peer c 4) 3 -∗ ((sent (F := F) c 2 ∗ wrdy m c (peer c 4) 3 ∗ col m c (peer c 4) ∗ owing c (OS c 4)) -∗ Q ⟨⟩)
      -∗ WP c (k0_part10 xH h0 wH h1 gxV h2 gwV h3 oH h4 xV h5 wV h6 sV h7 rV h8 yV h9 cc0_scratch5 cc0_scratch6 cc0_scratch7 cc0_scratch8 cc0_scratch9 c v2 (k0_pay6 (scl m c) (xf m c) (wl m c (peer c 3))) w) Q) := by
  rw [k0_part10_eq_skeleton]
  unfold k0_part10_skel
  simp only [smemLoad, smemLoadElt, semSignalWord, semWaitWord, Prog.lift, Prog.bind_op, Prog.bind_ret, Prog.pure_eq_ret, wp_deviceId]
  iintro #HC Hs HO Hw Hk
  iapply (st_stage m c 2 rfl) $$ Hs
  iintro Hs
  iapply (st_send m K c 2 (dev10_eq c) (o := 4) rfl rfl (congrArg (fun M : Memref sig .tc .vmem S1x512x256 .bf16 => M.squeeze S512x256 squeezes_S1x512x256_S512x256) (Memref.slice_unit_congr rV (k0_off3_eq c) _ _ _ _)) (sSem_eq 2 _) (rSem_eq c (k0_off2_eq c) _)) $$ HC Hs HO
  iintro ⟨Hs, HO⟩
  iapply (st_fetched m K c (peer c 4) 3 (wSem_eq 3 _) (above0_OS c 4)) $$ HC Hw HO
  iintro ⟨Hw, Hwc, HO⟩
  iapply (st_ret c)
  iapply Hk
  isplitl [Hs]; · iexact Hs
  isplitl [Hw]; · iexact Hw
  isplitl [Hwc] <;> [iexact Hwc; iexact HO]

theorem part11 {v2 : BitVec 32} {Q : _ → sProp (MT nD τ sig Unit (Elt F) ℕ UU ℕ)} :
    (ctx m K : sProp 𝕄) ⊢ iprop(col m c (peer c 6) -∗ wfree (F := F) c 1 -∗ wrdy m c (peer c 4) 3 -∗ toSend (F := F) c 3 -∗ ((wfly m c (peer c 6) 1 ∗ wfree (F := F) c 3 ∗ staged m c 3) -∗ Q ⟨⟩)
      -∗ WP c (k0_part11 xH h0 wH h1 gxV h2 gwV h3 oH h4 xV h5 wV h6 sV h7 rV h8 yV h9 cc0_scratch5 cc0_scratch6 cc0_scratch7 cc0_scratch8 cc0_scratch9 c v2 (scl m c) (xf m c)) Q) := by
  rw [k0_part11_eq_skeleton]
  unfold k0_part11_skel
  simp only [smemLoad, smemLoadElt, semSignalWord, semWaitWord, Prog.lift, Prog.bind_op, Prog.bind_ret, Prog.pure_eq_ret, wp_deviceId]
  iintro #HC Hcol Hw1 Hw Hs Hk
  iapply (st_fetch m c (peer c 6) 1 (Memref.slice_unit_congr wH (off1_eq c 5) _ _ _ _) rfl (wSem_eq 1 _)) $$ Hcol Hw1
  iintro Hw1
  iapply (st_loadw m c (peer c 4) 3) $$ Hw
  iintro Hw
  iapply (st_stage m c 3 rfl) $$ Hs
  iintro Hs
  iapply (st_ret c)
  iapply Hk
  isplitl [Hw1]; · iexact Hw1
  isplitl [Hw] <;> [iexact Hw; iexact Hs]

theorem part12 {v2 : BitVec 32} {Q : _ → sProp (MT nD τ sig Unit (Elt F) ℕ UU ℕ)} :
    (ctx m K : sProp 𝕄) ⊢ iprop(staged m c 3 -∗ owing c (OS c 4) -∗ wfly m c (peer c 5) 0 -∗ col m c (peer c 7) -∗ wfree (F := F) c 2 -∗ ((sent (F := F) c 3 ∗ wfree (F := F) c 0 ∗ col m c (peer c 5) ∗ wfly m c (peer c 7) 2 ∗ owing c (OS c 3)) -∗ Q (k0_pay9 (wl m c (peer c 5))))
      -∗ WP c (k0_part12 xH h0 wH h1 gxV h2 gwV h3 oH h4 xV h5 wV h6 sV h7 rV h8 yV h9 cc0_scratch5 cc0_scratch6 cc0_scratch7 cc0_scratch8 cc0_scratch9 c v2) Q) := by
  rw [k0_part12_eq_skeleton]
  unfold k0_part12_skel
  simp only [smemLoad, smemLoadElt, semSignalWord, semWaitWord, Prog.lift, Prog.bind_op, Prog.bind_ret, Prog.pure_eq_ret, wp_deviceId]
  iintro #HC Hs HO Hw Hcol Hw2 Hk
  iapply (st_send m K c 3 (dev11_eq c) (o := 3) rfl rfl (congrArg (fun M : Memref sig .tc .vmem S1x512x256 .bf16 => M.squeeze S512x256 squeezes_S1x512x256_S512x256) (Memref.slice_unit_congr rV (k0_off3_eq c) _ _ _ _)) (sSem_eq 3 _) (rSem_eq c (k0_off2_eq c) _)) $$ HC Hs HO
  iintro ⟨Hs, HO⟩
  iapply (st_fetched m K c (peer c 5) 0 (wSem_eq 0 _) (above0_OS c 3)) $$ HC Hw HO
  iintro ⟨Hw, Hwc, HO⟩
  iapply (st_fetch m c (peer c 7) 2 (Memref.slice_unit_congr wH (off1_eq c 6) _ _ _ _) rfl (wSem_eq 2 _)) $$ Hcol Hw2
  iintro Hw2
  iapply (st_loadw m c (peer c 5) 0) $$ Hw
  iintro Hw
  iapply (st_ret c)
  iapply Hk
  isplitl [Hs]; · iexact Hs
  isplitl [Hw]; · iexact Hw
  isplitl [Hwc]; · iexact Hwc
  isplitl [Hw2] <;> [iexact Hw2; iexact HO]

theorem part13 {v2 : BitVec 32} {Q : _ → sProp (MT nD τ sig Unit (Elt F) ℕ UU ℕ)} :
    (ctx m K : sProp 𝕄) ⊢ iprop(toSend (F := F) c 4 -∗ owing c (OS c 3) -∗ ((sent (F := F) c 4 ∗ owing c (OS c 2)) -∗ Q ⟨⟩)
      -∗ WP c (k0_part13 xH h0 wH h1 gxV h2 gwV h3 oH h4 xV h5 wV h6 sV h7 rV h8 yV h9 cc0_scratch5 cc0_scratch6 cc0_scratch7 cc0_scratch8 cc0_scratch9 c v2 (scl m c) (xf m c) (k0_pay9 (wl m c (peer c 5)))) Q) := by
  rw [k0_part13_eq_skeleton]
  unfold k0_part13_skel
  simp only [smemLoad, smemLoadElt, semSignalWord, semWaitWord, Prog.lift, Prog.bind_op, Prog.bind_ret, Prog.pure_eq_ret, wp_deviceId]
  iintro #HC Hs HO Hk
  iapply (st_stage m c 4 rfl) $$ Hs
  iintro Hs
  iapply (st_send m K c 4 (dev12_eq c) (o := 2) rfl rfl (congrArg (fun M : Memref sig .tc .vmem S1x512x256 .bf16 => M.squeeze S512x256 squeezes_S1x512x256_S512x256) (Memref.slice_unit_congr rV (k0_off3_eq c) _ _ _ _)) (sSem_eq 4 _) (rSem_eq c (k0_off2_eq c) _)) $$ HC Hs HO
  iintro ⟨Hs, HO⟩
  iapply (st_ret c)
  iapply Hk
  isplitl [Hs] <;> [iexact Hs; iexact HO]

theorem part14 {v2 : BitVec 32} {Q : (Σ' (v451 : FVec F S512x256 .f32) (v453 : BitVec 32) (c8_i32_330 : BitVec 32) (v454 : BitVec 1), BitVec 32) → sProp (MT nD τ sig Unit (Elt F) ℕ UU ℕ)} :
    (ctx m K : sProp 𝕄) ⊢ iprop(wfly m c (peer c 6) 1 -∗ col m c c -∗ wfree (F := F) c 3 -∗ owing c (OS c 2) -∗ (∀ (a b : BitVec 32) (d : BitVec 1) (e : BitVec 32), (wfree (F := F) c 1 ∗ col m c (peer c 6) ∗ wfly m c c 3 ∗ owing c (OS c 2)) -∗ Q ⟨k0_pay11 (scl m c) (xf m c) (wl m c (peer c 6)), a, b, d, e⟩)
      -∗ WP c (k0_part14 xH h0 wH h1 gxV h2 gwV h3 oH h4 xV h5 wV h6 sV h7 rV h8 yV h9 cc0_scratch5 cc0_scratch6 cc0_scratch7 cc0_scratch8 cc0_scratch9 c v2 (scl m c) (xf m c)) Q) := by
  rw [k0_part14_eq_skeleton]
  unfold k0_part14_skel
  simp only [smemLoad, smemLoadElt, semSignalWord, semWaitWord, Prog.lift, Prog.bind_op, Prog.bind_ret, Prog.pure_eq_ret, wp_deviceId]
  iintro #HC Hw Hcol Hw3 HO Hk
  iapply (st_fetched m K c (peer c 6) 1 (wSem_eq 1 _) (above0_OS c 2)) $$ HC Hw HO
  iintro ⟨Hw, Hwc, HO⟩
  iapply (st_fetch m c c 3 (Memref.slice_unit_congr wH (off1_own c) _ _ _ _) rfl (wSem_eq 3 _)) $$ Hcol Hw3
  iintro Hw3
  iapply (st_loadw m c (peer c 6) 1) $$ Hw
  iintro Hw
  iapply (st_ret c)
  iapply Hk
  isplitl [Hw]; · iexact Hw
  isplitl [Hwc]; · iexact Hwc
  isplitl [Hw3] <;> [iexact Hw3; iexact HO]

theorem part15 {w w1 w3 : BitVec 32} {w2 : BitVec 1} {Q : _ → sProp (MT nD τ sig Unit (Elt F) ℕ UU ℕ)} :
    (ctx m K : sProp 𝕄) ⊢ iprop(toSend (F := F) c 5 -∗ owing c (OS c 2) -∗ wfly m c (peer c 7) 2 -∗ ((sent (F := F) c 5 ∗ wfree (F := F) c 2 ∗ col m c (peer c 7) ∗ owing c (OS c 1)) -∗ Q (k0_pay13 (scl m c) (xf m c) (wl m c (peer c 7))))
      -∗ WP c (k0_part15 xH h0 wH h1 gxV h2 gwV h3 oH h4 xV h5 wV h6 sV h7 rV h8 yV h9 cc0_scratch5 cc0_scratch6 cc0_scratch7 cc0_scratch8 cc0_scratch9 c (scl m c) (xf m c) (k0_pay11 (scl m c) (xf m c) (wl m c (peer c 6))) w w1 w2 w3) Q) := by
  rw [k0_part15_eq_skeleton]
  unfold k0_part15_skel
  simp only [smemLoad, smemLoadElt, semSignalWord, semWaitWord, Prog.lift, Prog.bind_op, Prog.bind_ret, Prog.pure_eq_ret, wp_deviceId]
  iintro #HC Hs HO Hw Hk
  iapply (st_stage m c 5 rfl) $$ Hs
  iintro Hs
  iapply (st_send m K c 5 (dev13_eq c) (o := 1) rfl rfl (congrArg (fun M : Memref sig .tc .vmem S1x512x256 .bf16 => M.squeeze S512x256 squeezes_S1x512x256_S512x256) (Memref.slice_unit_congr rV (k0_off3_eq c) _ _ _ _)) (sSem_eq 5 _) (rSem_eq c (k0_off2_eq c) _)) $$ HC Hs HO
  iintro ⟨Hs, HO⟩
  iapply (st_fetched m K c (peer c 7) 2 (wSem_eq 2 _) (above0_OS c 1)) $$ HC Hw HO
  iintro ⟨Hw, Hwc, HO⟩
  iapply (st_loadw m c (peer c 7) 2) $$ Hw
  iintro Hw
  iapply (st_ret c)
  iapply Hk
  isplitl [Hs]; · iexact Hs
  isplitl [Hw]; · iexact Hw
  isplitl [Hwc] <;> [iexact Hwc; iexact HO]

theorem part16 {v2 : BitVec 32} {Q : _ → sProp (MT nD τ sig Unit (Elt F) ℕ UU ℕ)} :
    (ctx m K : sProp 𝕄) ⊢ iprop(toSend (F := F) c 6 -∗ owing c (OS c 1) -∗ ((sent (F := F) c 6 ∗ owing c 0) -∗ Q ⟨⟩)
      -∗ WP c (k0_part16 xH h0 wH h1 gxV h2 gwV h3 oH h4 xV h5 wV h6 sV h7 rV h8 yV h9 cc0_scratch5 cc0_scratch6 cc0_scratch7 cc0_scratch8 cc0_scratch9 c v2 (k0_pay13 (scl m c) (xf m c) (wl m c (peer c 7)))) Q) := by
  rw [k0_part16_eq_skeleton]
  unfold k0_part16_skel
  simp only [smemLoad, smemLoadElt, semSignalWord, semWaitWord, Prog.lift, Prog.bind_op, Prog.bind_ret, Prog.pure_eq_ret, wp_deviceId]
  iintro #HC Hs HO Hk
  iapply (st_stage m c 6 rfl) $$ Hs
  iintro Hs
  iapply (st_send m K c 6 (dev14_eq c) (o := 0) rfl rfl (congrArg (fun M : Memref sig .tc .vmem S1x512x256 .bf16 => M.squeeze S512x256 squeezes_S1x512x256_S512x256) (Memref.slice_unit_congr rV (k0_off3_eq c) _ _ _ _)) (sSem_eq 6 _) (rSem_eq c (k0_off2_eq c) _)) $$ HC Hs HO
  iintro ⟨Hs, HO⟩
  iapply (st_ret c)
  iapply Hk
  isplitl [Hs] <;> [iexact Hs; iexact HO]

theorem part17 {v2 : BitVec 32} {Q : (BitVec 32) → sProp (MT nD τ sig Unit (Elt F) ℕ UU ℕ)} :
    (ctx m K : sProp 𝕄) ⊢ iprop(wfly m c c 3 -∗ owing c 0 -∗ toOut (F := F) c c -∗ (∀ (a : BitVec 32), (wfree (F := F) c 3 ∗ col m c c ∗ outfly m c c ∗ owing c 0) -∗ Q a)
      -∗ WP c (k0_part17 xH h0 wH h1 gxV h2 gwV h3 oH h4 xV h5 wV h6 sV h7 rV h8 yV h9 cc0_scratch5 cc0_scratch6 cc0_scratch7 cc0_scratch8 cc0_scratch9 c v2 (scl m c) (xf m c)) Q) := by
  rw [k0_part17_eq_skeleton]
  unfold k0_part17_skel
  simp only [smemLoad, smemLoadElt, semSignalWord, semWaitWord, Prog.lift, Prog.bind_op, Prog.bind_ret, Prog.pure_eq_ret, wp_deviceId]
  iintro #HC Hw HO Ho Hk
  iapply (st_fetched m K c c 3 (wSem_eq 3 _) (above_zero 0)) $$ HC Hw HO
  iintro ⟨Hw, Hwc, HO⟩
  iapply (st_loadw m c c 3) $$ Hw
  iintro Hw
  iapply (st_out m c c (k0_off2_eq c) (k0_off3_eq c) (k0_off4_eq c) (k0_off5_eq c) (outs_self m c).symm) $$ Ho
  iintro Ho
  iapply (st_ret c)
  iapply Hk
  isplitl [Hw]; · iexact Hw
  isplitl [Hwc]; · iexact Hwc
  isplitl [Ho] <;> [iexact Ho; iexact HO]

theorem part18 {v2 w : BitVec 32} {Q : (BitVec 32) → sProp (MT nD τ sig Unit (Elt F) ℕ UU ℕ)} :
    (ctx m K : sProp 𝕄) ⊢ iprop(toTake (F := F) c (peer c 7) -∗ owing c 0 -∗ (∀ (a : BitVec 32), (taken m c (peer c 7) ∗ owing c 0) -∗ Q a)
      -∗ WP c (k0_part18 xH h0 wH h1 gxV h2 gwV h3 oH h4 xV h5 wV h6 sV h7 rV h8 yV h9 cc0_scratch5 cc0_scratch6 cc0_scratch7 cc0_scratch8 cc0_scratch9 c v2 w) Q) := by
  rw [k0_part18_eq_skeleton]
  unfold k0_part18_skel
  simp only [smemLoad, smemLoadElt, semSignalWord, semWaitWord, Prog.lift, Prog.bind_op, Prog.bind_ret, Prog.pure_eq_ret, wp_deviceId]
  iintro #HC Ht HO Hk
  iapply (st_take m K c (e := peer c 7) (peer_ne c 6) (off6_eq c 0) (off7_eq c 0) (off8_eq c 0) (off9_eq c 0) rfl) $$ HC Ht HO
  iintro ⟨Ht, HO⟩
  iapply (st_ret c)
  iapply Hk
  isplitl [Ht] <;> [iexact Ht; iexact HO]

theorem part19 {v2 w : BitVec 32} {Q : (BitVec 32) → sProp (MT nD τ sig Unit (Elt F) ℕ UU ℕ)} :
    (ctx m K : sProp 𝕄) ⊢ iprop(toTake (F := F) c (peer c 6) -∗ owing c 0 -∗ (∀ (a : BitVec 32), (taken m c (peer c 6) ∗ owing c 0) -∗ Q a)
      -∗ WP c (k0_part19 xH h0 wH h1 gxV h2 gwV h3 oH h4 xV h5 wV h6 sV h7 rV h8 yV h9 cc0_scratch5 cc0_scratch6 cc0_scratch7 cc0_scratch8 cc0_scratch9 c v2 w) Q) := by
  rw [k0_part19_eq_skeleton]
  unfold k0_part19_skel
  simp only [smemLoad, smemLoadElt, semSignalWord, semWaitWord, Prog.lift, Prog.bind_op, Prog.bind_ret, Prog.pure_eq_ret, wp_deviceId]
  iintro #HC Ht HO Hk
  iapply (st_take m K c (e := peer c 6) (peer_ne c 5) (off6_eq c 1) (off7_eq c 1) (off8_eq c 1) (off9_eq c 1) rfl) $$ HC Ht HO
  iintro ⟨Ht, HO⟩
  iapply (st_ret c)
  iapply Hk
  isplitl [Ht] <;> [iexact Ht; iexact HO]

theorem part20 {v2 w : BitVec 32} {Q : (BitVec 32) → sProp (MT nD τ sig Unit (Elt F) ℕ UU ℕ)} :
    (ctx m K : sProp 𝕄) ⊢ iprop(toTake (F := F) c (peer c 5) -∗ owing c 0 -∗ (∀ (a : BitVec 32), (taken m c (peer c 5) ∗ owing c 0) -∗ Q a)
      -∗ WP c (k0_part20 xH h0 wH h1 gxV h2 gwV h3 oH h4 xV h5 wV h6 sV h7 rV h8 yV h9 cc0_scratch5 cc0_scratch6 cc0_scratch7 cc0_scratch8 cc0_scratch9 c v2 w) Q) := by
  rw [k0_part20_eq_skeleton]
  unfold k0_part20_skel
  simp only [smemLoad, smemLoadElt, semSignalWord, semWaitWord, Prog.lift, Prog.bind_op, Prog.bind_ret, Prog.pure_eq_ret, wp_deviceId]
  iintro #HC Ht HO Hk
  iapply (st_take m K c (e := peer c 5) (peer_ne c 4) (off6_eq c 2) (off7_eq c 2) (off8_eq c 2) (off9_eq c 2) rfl) $$ HC Ht HO
  iintro ⟨Ht, HO⟩
  iapply (st_ret c)
  iapply Hk
  isplitl [Ht] <;> [iexact Ht; iexact HO]

theorem part21 {v2 w : BitVec 32} {Q : (BitVec 32) → sProp (MT nD τ sig Unit (Elt F) ℕ UU ℕ)} :
    (ctx m K : sProp 𝕄) ⊢ iprop(toTake (F := F) c (peer c 4) -∗ owing c 0 -∗ (∀ (a : BitVec 32), (taken m c (peer c 4) ∗ owing c 0) -∗ Q a)
      -∗ WP c (k0_part21 xH h0 wH h1 gxV h2 gwV h3 oH h4 xV h5 wV h6 sV h7 rV h8 yV h9 cc0_scratch5 cc0_scratch6 cc0_scratch7 cc0_scratch8 cc0_scratch9 c v2 w) Q) := by
  rw [k0_part21_eq_skeleton]
  unfold k0_part21_skel
  simp only [smemLoad, smemLoadElt, semSignalWord, semWaitWord, Prog.lift, Prog.bind_op, Prog.bind_ret, Prog.pure_eq_ret, wp_deviceId]
  iintro #HC Ht HO Hk
  iapply (st_take m K c (e := peer c 4) (peer_ne c 3) (off6_eq c 3) (off7_eq c 3) (off8_eq c 3) (off9_eq c 3) rfl) $$ HC Ht HO
  iintro ⟨Ht, HO⟩
  iapply (st_ret c)
  iapply Hk
  isplitl [Ht] <;> [iexact Ht; iexact HO]

theorem part22 {v2 w : BitVec 32} {Q : (BitVec 32) → sProp (MT nD τ sig Unit (Elt F) ℕ UU ℕ)} :
    (ctx m K : sProp 𝕄) ⊢ iprop(toTake (F := F) c (peer c 3) -∗ owing c 0 -∗ (∀ (a : BitVec 32), (taken m c (peer c 3) ∗ owing c 0) -∗ Q a)
      -∗ WP c (k0_part22 xH h0 wH h1 gxV h2 gwV h3 oH h4 xV h5 wV h6 sV h7 rV h8 yV h9 cc0_scratch5 cc0_scratch6 cc0_scratch7 cc0_scratch8 cc0_scratch9 c v2 w) Q) := by
  rw [k0_part22_eq_skeleton]
  unfold k0_part22_skel
  simp only [smemLoad, smemLoadElt, semSignalWord, semWaitWord, Prog.lift, Prog.bind_op, Prog.bind_ret, Prog.pure_eq_ret, wp_deviceId]
  iintro #HC Ht HO Hk
  iapply (st_take m K c (e := peer c 3) (peer_ne c 2) (off6_eq c 4) (off7_eq c 4) (off8_eq c 4) (off9_eq c 4) rfl) $$ HC Ht HO
  iintro ⟨Ht, HO⟩
  iapply (st_ret c)
  iapply Hk
  isplitl [Ht] <;> [iexact Ht; iexact HO]

theorem part23 {v2 w : BitVec 32} {Q : (BitVec 32) → sProp (MT nD τ sig Unit (Elt F) ℕ UU ℕ)} :
    (ctx m K : sProp 𝕄) ⊢ iprop(toTake (F := F) c (peer c 2) -∗ owing c 0 -∗ (∀ (a : BitVec 32), (taken m c (peer c 2) ∗ owing c 0) -∗ Q a)
      -∗ WP c (k0_part23 xH h0 wH h1 gxV h2 gwV h3 oH h4 xV h5 wV h6 sV h7 rV h8 yV h9 cc0_scratch5 cc0_scratch6 cc0_scratch7 cc0_scratch8 cc0_scratch9 c v2 w) Q) := by
  rw [k0_part23_eq_skeleton]
  unfold k0_part23_skel
  simp only [smemLoad, smemLoadElt, semSignalWord, semWaitWord, Prog.lift, Prog.bind_op, Prog.bind_ret, Prog.pure_eq_ret, wp_deviceId]
  iintro #HC Ht HO Hk
  iapply (st_take m K c (e := peer c 2) (peer_ne c 1) (off6_eq c 5) (off7_eq c 5) (off8_eq c 5) (off9_eq c 5) rfl) $$ HC Ht HO
  iintro ⟨Ht, HO⟩
  iapply (st_ret c)
  iapply Hk
  isplitl [Ht] <;> [iexact Ht; iexact HO]

theorem part24 {w : BitVec 32} {Q : _ → sProp (MT nD τ sig Unit (Elt F) ℕ UU ℕ)} :
    (ctx m K : sProp 𝕄) ⊢ iprop(toTake (F := F) c (peer c 1) -∗ owing c 0 -∗ outfly m c c -∗ outfly m c (peer c 7) -∗ outfly m c (peer c 6) -∗ ((taken m c (peer c 1) ∗ outdone m c c ∗ outdone m c (peer c 7) ∗ outdone m c (peer c 6) ∗ owing c 0) -∗ Q ⟨⟩)
      -∗ WP c (k0_part24 xH h0 wH h1 gxV h2 gwV h3 oH h4 xV h5 wV h6 sV h7 rV h8 yV h9 cc0_scratch5 cc0_scratch6 cc0_scratch7 cc0_scratch8 cc0_scratch9 c w) Q) := by
  rw [k0_part24_eq_skeleton]
  unfold k0_part24_skel
  simp only [smemLoad, smemLoadElt, semSignalWord, semWaitWord, Prog.lift, Prog.bind_op, Prog.bind_ret, Prog.pure_eq_ret, wp_deviceId]
  iintro #HC Ht HO Ho H7 H6 Hk
  iapply (st_take m K c (e := peer c 1) (peer_ne c 0) (off6_eq c 6) (off7_eq c 6) (off8_eq c 6) (off9_eq c 6) rfl) $$ HC Ht HO
  iintro ⟨Ht, HO⟩
  iapply (st_landed m K c c (oSem_eq c (k0_off2_eq c) _)) $$ HC Ho HO
  iintro ⟨Ho, HO⟩
  iapply (st_landed m K c (peer c 7) (oSem_eq (peer c 7) (off6_eq c 0) _)) $$ HC H7 HO
  iintro ⟨H7, HO⟩
  iapply (st_landed m K c (peer c 6) (oSem_eq (peer c 6) (off6_eq c 1) _)) $$ HC H6 HO
  iintro ⟨H6, HO⟩
  iapply (st_ret c)
  iapply Hk
  isplitl [Ht]; · iexact Ht
  isplitl [Ho]; · iexact Ho
  isplitl [H7]; · iexact H7
  isplitl [H6] <;> [iexact H6; iexact HO]

theorem part25  {Q : _ → sProp (MT nD τ sig Unit (Elt F) ℕ UU ℕ)} :
    (ctx m K : sProp 𝕄) ⊢ iprop(owing c 0 -∗ outfly m c (peer c 5) -∗ outfly m c (peer c 4) -∗ outfly m c (peer c 3) -∗ outfly m c (peer c 2) -∗ outfly m c (peer c 1) -∗ atPos ER (sendCell c 0) 0 ∅ 0 -∗ sent (F := F) c 0 -∗ ((outdone m c (peer c 5) ∗ outdone m c (peer c 4) ∗ outdone m c (peer c 3) ∗ outdone m c (peer c 2) ∗ outdone m c (peer c 1) ∗ semVal (sendCell c 0) 0 ∗ some_ (F := F) c (sS 0) ∗ owing c 0) -∗ Q ⟨⟩)
      -∗ WP c (k0_part25 xH h0 wH h1 gxV h2 gwV h3 oH h4 xV h5 wV h6 sV h7 rV h8 yV h9 cc0_scratch5 cc0_scratch6 cc0_scratch7 cc0_scratch8 cc0_scratch9 c) Q) := by
  rw [k0_part25_eq_skeleton]
  unfold k0_part25_skel
  simp only [smemLoad, smemLoadElt, semSignalWord, semWaitWord, Prog.lift, Prog.bind_op, Prog.bind_ret, Prog.pure_eq_ret, wp_deviceId]
  iintro #HC HO H5 H4 H3 H2 H1 Hp Hs Hk
  iapply (st_landed m K c (peer c 5) (oSem_eq (peer c 5) (off6_eq c 2) _)) $$ HC H5 HO
  iintro ⟨H5, HO⟩
  iapply (st_landed m K c (peer c 4) (oSem_eq (peer c 4) (off6_eq c 3) _)) $$ HC H4 HO
  iintro ⟨H4, HO⟩
  iapply (st_landed m K c (peer c 3) (oSem_eq (peer c 3) (off6_eq c 4) _)) $$ HC H3 HO
  iintro ⟨H3, HO⟩
  iapply (st_landed m K c (peer c 2) (oSem_eq (peer c 2) (off6_eq c 5) _)) $$ HC H2 HO
  iintro ⟨H2, HO⟩
  iapply (st_landed m K c (peer c 1) (oSem_eq (peer c 1) (off6_eq c 6) _)) $$ HC H1 HO
  iintro ⟨H1, HO⟩
  iapply (st_left m K c 0 (sSem_eq 0 _)) $$ HC Hp Hs HO
  iintro ⟨Hp, Hs, HO⟩
  iapply (st_ret c)
  iapply Hk
  isplitl [H5]; · iexact H5
  isplitl [H4]; · iexact H4
  isplitl [H3]; · iexact H3
  isplitl [H2]; · iexact H2
  isplitl [H1]; · iexact H1
  isplitl [Hp]; · iexact Hp
  isplitl [Hs] <;> [iexact Hs; iexact HO]

theorem part26  {Q : _ → sProp (MT nD τ sig Unit (Elt F) ℕ UU ℕ)} :
    (ctx m K : sProp 𝕄) ⊢ iprop(owing c 0 -∗ atPos ER (sendCell c 1) 0 ∅ 0 -∗ sent (F := F) c 1 -∗ atPos ER (sendCell c 2) 0 ∅ 0 -∗ sent (F := F) c 2 -∗ atPos ER (sendCell c 3) 0 ∅ 0 -∗ sent (F := F) c 3 -∗ atPos ER (sendCell c 4) 0 ∅ 0 -∗ sent (F := F) c 4 -∗ ((semVal (sendCell c 1) 0 ∗ some_ (F := F) c (sS 1) ∗ semVal (sendCell c 2) 0 ∗ some_ (F := F) c (sS 2) ∗ semVal (sendCell c 3) 0 ∗ some_ (F := F) c (sS 3) ∗ semVal (sendCell c 4) 0 ∗ some_ (F := F) c (sS 4) ∗ owing c 0) -∗ Q ⟨⟩)
      -∗ WP c (k0_part26 xH h0 wH h1 gxV h2 gwV h3 oH h4 xV h5 wV h6 sV h7 rV h8 yV h9 cc0_scratch5 cc0_scratch6 cc0_scratch7 cc0_scratch8 cc0_scratch9 c) Q) := by
  rw [k0_part26_eq_skeleton]
  unfold k0_part26_skel
  simp only [smemLoad, smemLoadElt, semSignalWord, semWaitWord, Prog.lift, Prog.bind_op, Prog.bind_ret, Prog.pure_eq_ret, wp_deviceId]
  iintro #HC HO Hp1 Hs1 Hp2 Hs2 Hp3 Hs3 Hp4 Hs4 Hk
  iapply (st_left m K c 1 (sSem_eq 1 _)) $$ HC Hp1 Hs1 HO
  iintro ⟨Hp1, Hs1, HO⟩
  iapply (st_left m K c 2 (sSem_eq 2 _)) $$ HC Hp2 Hs2 HO
  iintro ⟨Hp2, Hs2, HO⟩
  iapply (st_left m K c 3 (sSem_eq 3 _)) $$ HC Hp3 Hs3 HO
  iintro ⟨Hp3, Hs3, HO⟩
  iapply (st_left m K c 4 (sSem_eq 4 _)) $$ HC Hp4 Hs4 HO
  iintro ⟨Hp4, Hs4, HO⟩
  iapply (st_ret c)
  iapply Hk
  isplitl [Hp1]; · iexact Hp1
  isplitl [Hs1]; · iexact Hs1
  isplitl [Hp2]; · iexact Hp2
  isplitl [Hs2]; · iexact Hs2
  isplitl [Hp3]; · iexact Hp3
  isplitl [Hs3]; · iexact Hs3
  isplitl [Hp4]; · iexact Hp4
  isplitl [Hs4] <;> [iexact Hs4; iexact HO]

end Cert.KernelIdeal.Exchange
-- ==== Proof.KernelIdeal.Body.lean ====
/-
The whole body on a symbolic device: the parts one after another.
-/
module

public import proofs.«01_k».proof.Proof.KernelIdeal.Parts

@[expose] public section

set_option maxRecDepth 65536

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Families over the other devices -/

theorem peer_injective (c : Dev nD) : Function.Injective fun k : Fin 7 => peer c (k.val + 1) := by revert c; decide
theorem erase_eq (c : Dev nD) : Finset.univ.erase c = Finset.univ.map ⟨fun k : Fin 7 => peer c (k.val + 1), peer_injective c⟩ := by revert c; decide

omit [FloatOps F] in
/-- What holds for every device but `c`, counted from `c`. -/
theorem around (Φ : Dev nD → sProp (MT nD τ sig Unit (Elt F) ℕ UU ℕ)) :
    bigSep (Finset.univ.erase c) Φ = bigSep Finset.univ fun k : Fin 7 => Φ (peer c (k.val + 1)) := by
  rw [erase_eq, bigSep_map]; rfl
omit [FloatOps F] in
theorem everyone (Φ : Dev nD → sProp (MT nD τ sig Unit (Elt F) ℕ UU ℕ)) :
    bigSep Finset.univ Φ = iprop(Φ c ∗ bigSep Finset.univ fun k : Fin 7 => Φ (peer c (k.val + 1))) := by
  rw [← around, ← bigSep_univ_at]
omit [FloatOps F] in
theorem seven (Φ : Fin 7 → sProp (MT nD τ sig Unit (Elt F) ℕ UU ℕ)) :
    bigSep Finset.univ Φ = iprop(Φ 0 ∗ Φ 1 ∗ Φ 2 ∗ Φ 3 ∗ Φ 4 ∗ Φ 5 ∗ Φ 6) := bigSep_univ_eq_bigSepL [0, 1, 2, 3, 4, 5, 6] (by decide) (by decide) Φ
omit [FloatOps F] in
theorem four (Φ : Fin 4 → sProp (MT nD τ sig Unit (Elt F) ℕ UU ℕ)) :
    bigSep Finset.univ Φ = iprop(Φ 0 ∗ Φ 1 ∗ Φ 2 ∗ Φ 3) := bigSep_univ_eq_bigSepL [0, 1, 2, 3] (by decide) (by decide) Φ

omit [FloatOps F] in
theorem seven_peer (Φ : Dev nD → sProp (MT nD τ sig Unit (Elt F) ℕ UU ℕ)) :
    (bigSep Finset.univ fun k : Fin 7 => Φ (peer c (k.val + 1)))
      = iprop(Φ (peer c 1) ∗ Φ (peer c 2) ∗ Φ (peer c 3) ∗ Φ (peer c 4) ∗ Φ (peer c 5) ∗ Φ (peer c 6) ∗ Φ (peer c 7)) := seven _

/-! ## What the body takes and leaves -/

/-- What sending at step `st` takes of the sender's own. -/
def half (st : Fin 7) : sProp 𝕄 :=
  iprop(some_ (F := F) c (sS st) ∗ dutyTok ER (sendCell c st) 0 c ∗ dutyTok ER (recvCell (peer c (st.val + 1)) c) 0 c)

def Start : sProp 𝕄 :=
  iprop((own c xH (xv m c) ∗ some_ (F := F) c xV ∗ semVal ((c : Thread nD τ), .dma xSem) 0)
    ∗ (bigSep Finset.univ fun e : Dev nD => col m c e) ∗ (bigSep Finset.univ fun k : Fin 4 => wfree (F := F) c k)
    ∗ (bigSep Finset.univ fun k : Fin 7 => toSig (F := F) c (peer c (k.val + 1))) ∗ (bigSep Finset.univ fun st : Fin 7 => half (F := F) c st)
    ∗ (bigSep Finset.univ fun st : Fin 7 => atPos ER (sendCell c st) 0 ∅ 0) ∗ (bigSep Finset.univ fun k : Fin 7 => toTake (F := F) c (peer c (k.val + 1)))
    ∗ (toOut (F := F) c c ∗ atPos ER (recvCell c c) 0 ∅ 0) ∗ atPos ER (barCell c) 0 ∅ 0 ∗ cred (tallyAt (barCell c) () 7))

def End : sProp 𝕄 :=
  iprop((own c xH (xv m c) ∗ some_ (F := F) c xV ∗ semVal ((c : Thread nD τ), .dma xSem) 0)
    ∗ (bigSep Finset.univ fun e : Dev nD => col m c e) ∗ (bigSep Finset.univ fun k : Fin 4 => wfree (F := F) c k)
    ∗ (bigSep Finset.univ fun st : Fin 7 => iprop(semVal (sendCell c st) 0 ∗ some_ (F := F) c (sS st)))
    ∗ (bigSep Finset.univ fun k : Fin 7 => iprop(semVal (recvCell c (peer c (k.val + 1))) 0 ∗ some_ (F := F) c (rS (peer c (k.val + 1)))))
    ∗ (bigSep Finset.univ fun e : Dev nD => outdone m c e) ∗ semVal (recvCell c c) 0 ∗ semVal (barCell c) 0)

section St
variable {α β : Type}
theorem st_bind {Q : β → sProp (MT nD τ sig Unit (Elt F) ℕ UU ℕ)} (p : Prog (TpuEff nD τ sig (Elt F) Λ₀ .tc) α) (k : α → Prog (TpuEff nD τ sig (Elt F) Λ₀ .tc) β) :
    WP c p (fun a => WP c (k a) Q) ⊢ WP c (p >>= k) Q := by
  unfold WP; rw [wp_bind]
end St

omit [FloatOps F] in
theorem to_send : iprop((bigSep Finset.univ fun st : Fin 7 => half (F := F) c st) ∗ bigSep (Finset.univ.erase c) fun d : Dev nD => some_ (F := F) d (rQ c))
    ⊢ (bigSep Finset.univ fun st : Fin 7 => toSend (F := F) c st : sProp 𝕄) := by
  rw [around, ← bigSep_sep']
  refine bigSep_mono fun st _ => ?_
  show (iprop(half (F := F) c st ∗ some_ (F := F) (peer c (st.val + 1)) (rQ c)) : sProp 𝕄) ⊢ toSend (F := F) c st
  unfold half toSend
  iintro ⟨⟨H1, H2, H3⟩, H4⟩
  isplitl [H1]; · iexact H1
  isplitl [H4]; · iexact H4
  isplitl [H2] <;> iassumption

theorem taken_done (e : Dev nD) : (taken m c e : sProp 𝕄) ⊢ iprop(iprop(semVal (recvCell c e) 0 ∗ some_ (F := F) c (rS e)) ∗ outfly m c e) := by
  unfold taken
  iintro ⟨H1, H2, H3⟩
  isplitr [H3]
  · isplitl [H1]; · iexact H1
    iapply (some_of c (rS e)) $$ H2
  iexact H3

variable (h0 : xH.IsWhole) (h1 : wH.IsWhole) (h2 : gxV.IsWhole) (h3 : gwV.IsWhole) (h4 : oH.IsWhole) (h5 : xV.IsWhole)
  (h6 : wV.IsWhole) (h7 : sV.IsWhole) (h8 : rV.IsWhole) (h9 : yV.IsWhole)

set_option maxHeartbeats 4000000 in
/-- The body, part by part. -/
theorem sound_core (Kt : PUnit → sProp 𝕄) :
    (ctx m K : sProp 𝕄) ⊢ iprop(gx m c -∗ gw m c -∗ Start m c -∗ owing c (OB c 7) -∗ ((gx m c ∗ gw m c ∗ End m c ∗ owing c 0) -∗ Kt ⟨⟩)
      -∗ WP c (cc0_body xH h0 wH h1 gxV h2 gwV h3 oH h4 xV h5 wV h6 sV h7 rV h8 yV h9 cc0_scratch5 cc0_scratch6 cc0_scratch7 cc0_scratch8 cc0_scratch9) Kt) := by
  rw [cc0_body_eq_skeleton]
  unfold cc0_body_skel
  iintro #HC Hgx Hgw HS HO Hk
  unfold Start
  icases HS with ⟨⟨Hx, Hxv, Hxs⟩, Hcols, Hws, Hsigs, Hhalf, Hats, Htakes, ⟨Hout, Hself⟩, Hpb, Hcb⟩
  imod (Rounds.cell_close ER (exRd m) (Set.mem_univ (K (c, iRecv c))) (fun h => h) (R := 0) (duties_self_any m c)) $$ [Hself] with Hself
  · isplitr; · iapply (ctx_inv m K (c, iRecv c)); iexact HC
    iexact Hself
  ihave Hcols := (Entails.of_eq (everyone c _)) $$ Hcols
  icases Hcols with ⟨Hc8, Hcols⟩
  ihave Hcols := (Entails.of_eq (seven_peer c fun e => col m c e)) $$ Hcols
  icases Hcols with ⟨Hc1, Hc2, Hc3, Hc4, Hc5, Hc6, Hc7⟩
  ihave Hws := (Entails.of_eq (four _)) $$ Hws
  icases Hws with ⟨Hw0, Hw1, Hw2, Hw3⟩
  ihave Hsigs := (Entails.of_eq (seven_peer c fun e => toSig (F := F) c e)) $$ Hsigs
  icases Hsigs with ⟨Hg1, Hg2, Hg3, Hg4, Hg5, Hg6, Hg7⟩
  ihave Hats := (Entails.of_eq (seven _)) $$ Hats
  icases Hats with ⟨Ha0, Ha1, Ha2, Ha3, Ha4, Ha5, Ha6⟩
  ihave Htakes := (Entails.of_eq (seven_peer c fun e => toTake (F := F) c e)) $$ Htakes
  icases Htakes with ⟨Ht1, Ht2, Ht3, Ht4, Ht5, Ht6, Ht7⟩
  iapply (st_bind c)
  iapply (part1 m K c h0 h1 h2 h3 h4 h5 h6 h7 h8 h9) $$ HC Hgx Hgw Hx Hxv Hxs Hc1 Hw0
  iintro %_ %_ %_ %_ %_ %_ ⟨Hgx, Hgw, Hx, Hw0⟩
  try dsimp only
  iapply (st_bind c)
  iapply (part2 m K c h0 h1 h2 h3 h4 h5 h6 h7 h8 h9) $$ HC Hc2 Hw1 Hg1 HO
  iintro %_ %_ %_ ⟨Hw1, HO⟩
  try dsimp only
  iapply (st_bind c)
  iapply (part3 m K c h0 h1 h2 h3 h4 h5 h6 h7 h8 h9) $$ HC Hg2 Hg3 Hg4 HO
  iintro %_ %_ %_ HO
  try dsimp only
  iapply (st_bind c)
  iapply (part4 m K c h0 h1 h2 h3 h4 h5 h6 h7 h8 h9) $$ HC Hg5 Hg6 HO
  iintro %_ %_ %_ HO
  try dsimp only
  iapply (st_bind c)
  iapply (part5 m K c h0 h1 h2 h3 h4 h5 h6 h7 h8 h9) $$ HC Hg7 HO Hpb Hcb Hx Hw0 Hc3 Hw2
  iintro ⟨⟨Hbar, Hslots, HO⟩, ⟨Hxv, Hx, Hxs⟩, Hw0, Hc1, Hw2⟩
  try dsimp only
  ihave Hsend := (to_send (F := F) c) $$ [Hhalf Hslots]
  · isplitl [Hhalf] <;> iassumption
  ihave Hsend := (Entails.of_eq (seven _)) $$ Hsend
  icases Hsend with ⟨Hs0, Hs1, Hs2, Hs3, Hs4, Hs5, Hs6⟩
  iapply (st_bind c)
  iapply (part6 m K c h0 h1 h2 h3 h4 h5 h6 h7 h8 h9) $$ HC Hw0 Hs0 HO
  iintro ⟨Hw0, Hs0, HO⟩
  try dsimp only
  iapply (st_bind c)
  iapply (part7 m K c h0 h1 h2 h3 h4 h5 h6 h7 h8 h9) $$ HC Hw1 Hc4 Hw3 HO
  iintro %_ ⟨Hw1, Hc2, Hw3, HO⟩
  try dsimp only
  iapply (st_bind c)
  iapply (part8 m K c h0 h1 h2 h3 h4 h5 h6 h7 h8 h9) $$ HC Hs1 HO Hw2
  iintro %_ %_ %_ ⟨Hs1, Hw2, Hc3, HO⟩
  try dsimp only
  iapply (st_bind c)
  iapply (part9 m K c h0 h1 h2 h3 h4 h5 h6 h7 h8 h9) $$ HC Hc5 Hw0 Hw2
  iintro %_ ⟨Hw0, Hw2⟩
  try dsimp only
  iapply (st_bind c)
  iapply (part10 m K c h0 h1 h2 h3 h4 h5 h6 h7 h8 h9) $$ HC Hs2 HO Hw3
  iintro ⟨Hs2, Hw3, Hc4, HO⟩
  try dsimp only
  iapply (st_bind c)
  iapply (part11 m K c h0 h1 h2 h3 h4 h5 h6 h7 h8 h9) $$ HC Hc6 Hw1 Hw3 Hs3
  iintro ⟨Hw1, Hw3, Hs3⟩
  try dsimp only
  iapply (st_bind c)
  iapply (part12 m K c h0 h1 h2 h3 h4 h5 h6 h7 h8 h9) $$ HC Hs3 HO Hw0 Hc7 Hw2
  iintro ⟨Hs3, Hw0, Hc5, Hw2, HO⟩
  try dsimp only
  iapply (st_bind c)
  iapply (part13 m K c h0 h1 h2 h3 h4 h5 h6 h7 h8 h9) $$ HC Hs4 HO
  iintro ⟨Hs4, HO⟩
  try dsimp only
  iapply (st_bind c)
  iapply (part14 m K c h0 h1 h2 h3 h4 h5 h6 h7 h8 h9) $$ HC Hw1 Hc8 Hw3 HO
  iintro %_ %_ %_ %_ ⟨Hw1, Hc6, Hw3, HO⟩
  try dsimp only
  iapply (st_bind c)
  iapply (part15 m K c h0 h1 h2 h3 h4 h5 h6 h7 h8 h9) $$ HC Hs5 HO Hw2
  iintro ⟨Hs5, Hw2, Hc7, HO⟩
  try dsimp only
  iapply (st_bind c)
  iapply (part16 m K c h0 h1 h2 h3 h4 h5 h6 h7 h8 h9) $$ HC Hs6 HO
  iintro ⟨Hs6, HO⟩
  try dsimp only
  iapply (st_bind c)
  iapply (part17 m K c h0 h1 h2 h3 h4 h5 h6 h7 h8 h9) $$ HC Hw3 HO Hout
  iintro %_ ⟨Hw3, Hc8, Hf8, HO⟩
  try dsimp only
  iapply (st_bind c)
  iapply (part18 m K c h0 h1 h2 h3 h4 h5 h6 h7 h8 h9) $$ HC Ht7 HO
  iintro %_ ⟨Ht7, HO⟩
  try dsimp only
  ihave Ht7 := (taken_done m c (peer c 7)) $$ Ht7
  icases Ht7 with ⟨Ht7, Hf7⟩
  iapply (st_bind c)
  iapply (part19 m K c h0 h1 h2 h3 h4 h5 h6 h7 h8 h9) $$ HC Ht6 HO
  iintro %_ ⟨Ht6, HO⟩
  try dsimp only
  ihave Ht6 := (taken_done m c (peer c 6)) $$ Ht6
  icases Ht6 with ⟨Ht6, Hf6⟩
  iapply (st_bind c)
  iapply (part20 m K c h0 h1 h2 h3 h4 h5 h6 h7 h8 h9) $$ HC Ht5 HO
  iintro %_ ⟨Ht5, HO⟩
  try dsimp only
  ihave Ht5 := (taken_done m c (peer c 5)) $$ Ht5
  icases Ht5 with ⟨Ht5, Hf5⟩
  iapply (st_bind c)
  iapply (part21 m K c h0 h1 h2 h3 h4 h5 h6 h7 h8 h9) $$ HC Ht4 HO
  iintro %_ ⟨Ht4, HO⟩
  try dsimp only
  ihave Ht4 := (taken_done m c (peer c 4)) $$ Ht4
  icases Ht4 with ⟨Ht4, Hf4⟩
  iapply (st_bind c)
  iapply (part22 m K c h0 h1 h2 h3 h4 h5 h6 h7 h8 h9) $$ HC Ht3 HO
  iintro %_ ⟨Ht3, HO⟩
  try dsimp only
  ihave Ht3 := (taken_done m c (peer c 3)) $$ Ht3
  icases Ht3 with ⟨Ht3, Hf3⟩
  iapply (st_bind c)
  iapply (part23 m K c h0 h1 h2 h3 h4 h5 h6 h7 h8 h9) $$ HC Ht2 HO
  iintro %_ ⟨Ht2, HO⟩
  try dsimp only
  ihave Ht2 := (taken_done m c (peer c 2)) $$ Ht2
  icases Ht2 with ⟨Ht2, Hf2⟩
  iapply (st_bind c)
  iapply (part24 m K c h0 h1 h2 h3 h4 h5 h6 h7 h8 h9) $$ HC Ht1 HO Hf8 Hf7 Hf6
  iintro ⟨Ht1, Hf8, Hf7, Hf6, HO⟩
  try dsimp only
  ihave Ht1 := (taken_done m c (peer c 1)) $$ Ht1
  icases Ht1 with ⟨Ht1, Hf1⟩
  iapply (st_bind c)
  iapply (part25 m K c h0 h1 h2 h3 h4 h5 h6 h7 h8 h9) $$ HC HO Hf5 Hf4 Hf3 Hf2 Hf1 Ha0 Hs0
  iintro ⟨Hf5, Hf4, Hf3, Hf2, Hf1, Ha0, Hs0, HO⟩
  try dsimp only
  iapply (st_bind c)
  iapply (part26 m K c h0 h1 h2 h3 h4 h5 h6 h7 h8 h9) $$ HC HO Ha1 Hs1 Ha2 Hs2 Ha3 Hs3 Ha4 Hs4
  iintro ⟨Ha1, Hs1, Ha2, Hs2, Ha3, Hs3, Ha4, Hs4, HO⟩
  try dsimp only
  simp only [Prog.lift, Prog.bind_op, Prog.bind_ret, Prog.pure_eq_ret]
  iapply (st_left m K c 5 (sSem_eq 5 _)) $$ HC Ha5 Hs5 HO
  iintro ⟨Ha5, Hs5, HO⟩
  iapply (st_left m K c 6 (sSem_eq 6 _)) $$ HC Ha6 Hs6 HO
  iintro ⟨Ha6, Hs6, HO⟩
  iapply (st_ret c)
  iapply Hk
  isplitl [Hgx]; · iexact Hgx
  isplitl [Hgw]; · iexact Hgw
  isplitr [HO]
  · unfold End
    isplitl [Hx Hxv Hxs]
    · isplitl [Hx]; · iexact Hx
      isplitl [Hxv]; · iapply (some_of c xV) $$ Hxv
      iexact Hxs
    isplitl [Hc8 Hc1 Hc2 Hc3 Hc4 Hc5 Hc6 Hc7]
    · iapply (Entails.of_eq (everyone c _).symm)
      isplitl [Hc8]; · iexact Hc8
      iapply (Entails.of_eq (seven_peer c fun e => col m c e).symm)
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    isplitl [Hw0 Hw1 Hw2 Hw3]
    · iapply (Entails.of_eq (four _).symm)
      isplitl [Hw0]; · iexact Hw0
      isplitl [Hw1]; · iexact Hw1
      isplitl [Hw2]; · iexact Hw2
      iexact Hw3
    isplitl [Ha0 Hs0 Ha1 Hs1 Ha2 Hs2 Ha3 Hs3 Ha4 Hs4 Ha5 Hs5 Ha6 Hs6]
    · iapply (Entails.of_eq (seven _).symm)
      isplitl [Ha0 Hs0]; · (isplitl [Ha0] <;> iassumption)
      isplitl [Ha1 Hs1]; · (isplitl [Ha1] <;> iassumption)
      isplitl [Ha2 Hs2]; · (isplitl [Ha2] <;> iassumption)
      isplitl [Ha3 Hs3]; · (isplitl [Ha3] <;> iassumption)
      isplitl [Ha4 Hs4]; · (isplitl [Ha4] <;> iassumption)
      isplitl [Ha5 Hs5]; · (isplitl [Ha5] <;> iassumption)
      isplitl [Ha6] <;> iassumption
    isplitl [Ht1 Ht2 Ht3 Ht4 Ht5 Ht6 Ht7]
    · iapply (Entails.of_eq (seven_peer c fun e => iprop(semVal (recvCell c e) 0 ∗ some_ (F := F) c (rS e))).symm)
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Hf8 Hf1 Hf2 Hf3 Hf4 Hf5 Hf6 Hf7]
    · iapply (Entails.of_eq (everyone c _).symm)
      isplitl [Hf8]; · iexact Hf8
      iapply (Entails.of_eq (seven_peer c fun e => outdone m c e).symm)
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      iexact Hf7
    isplitl [Hself] <;> iassumption
  iexact HO

end Cert.KernelIdeal.Exchange
-- ==== Proof.KernelIdeal.Buffers.lean ====
/-
The buffers of the kernel cut into the slots its transfers use, and put together again.
-/
module

public import proofs.«01_k».proof.Proof.KernelIdeal.Body

@[expose] public section

set_option maxRecDepth 65536

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any family of disjoint slices that covers a memref -/

section Family
variable {T : Type} [Fintype T] [DecidableEq T] (c : Dev nD) {sp : Space} {s : Shape} {e : EltTy} (M : Memref sig .tc sp s e) (r : T → Rect s)
  (hr : ∀ t a, (r t).stride a = 1) (hd : ∀ t t', t ≠ t' → Disjoint (r t).set (r t').set) (hcov : Finset.univ.biUnion (fun t => (r t).set) = Finset.univ)

include hd hcov in
omit [FloatOps F] in
theorem some_split : (some_ (F := F) c M : sProp 𝕄) ⊢ bigSep Finset.univ fun t => some_ (F := F) c (M.slice (r t) (hr t)) := by
  have h (X : s.Idx → Elt F e) : (own c M X : sProp 𝕄) ⊢ bigSep Finset.univ fun t => some_ (F := F) c (M.slice (r t) (hr t)) :=
    (owns_rects (c : Thread nD τ) M fullShare r hr hd hcov X).trans (bigSep_mono fun t _ => some_of c _ _)
  unfold some_ at h ⊢
  iintro ⟨%X, H⟩
  iapply (h X) $$ H

include hd hcov in
omit [Fintype T] [FloatOps F] hcov in
/-- Contents given slice by slice are the slices of one. -/
theorem glue [Fintype T] (hcov : Finset.univ.biUnion (fun t => (r t).set) = Finset.univ) (Y : (t : T) → (r t).shape.Idx → Elt F e) :
    ∃ X : s.Idx → Elt F e, ∀ t j, X ((r t).emb j) = Y t j := by
  have hex (i : s.Idx) : ∃ p : (t : T) × (r t).shape.Idx, (r p.1).emb p.2 = i := by
    obtain ⟨t, -, ht⟩ := Finset.mem_biUnion.mp (hcov.symm ▸ Finset.mem_univ i)
    rw [← (r t).map_emb_univ] at ht
    obtain ⟨j, -, hj⟩ := Finset.mem_map.mp ht
    exact ⟨⟨t, j⟩, hj⟩
  choose p hp using hex
  refine ⟨fun i => Y (p i).1 (p i).2, fun t j => ?_⟩
  have h1 : (p ((r t).emb j)).1 = t := by
    by_contra hne
    refine Finset.disjoint_left.mp (hd _ _ hne) (?_ : (r t).emb j ∈ _) ?_
    · rw [← (r _).map_emb_univ]; exact Finset.mem_map.mpr ⟨_, Finset.mem_univ _, hp _⟩
    · rw [← (r t).map_emb_univ]; exact Finset.mem_map.mpr ⟨_, Finset.mem_univ _, rfl⟩
  have h2 : p ((r t).emb j) = ⟨t, j⟩ := by
    have hq := hp ((r t).emb j)
    generalize p ((r t).emb j) = q at h1 hq
    obtain ⟨q1, q2⟩ := q
    dsimp only at h1
    subst h1
    have hq' : q2 = j := (r q1).emb.injective hq
    rw [hq']
  show Y (p ((r t).emb j)).1 (p ((r t).emb j)).2 = _
  rw [h2]

include hd hcov in
theorem some_join : (bigSep Finset.univ fun t => some_ (F := F) c (M.slice (r t) (hr t))) ⊢ (some_ (F := F) c M : sProp 𝕄) := by
  unfold some_
  refine (BI.bigSep_exists_pi Finset.univ (fun t (X : (r t).shape.Idx → Elt F e) => (own c (M.slice (r t) (hr t)) X : sProp 𝕄))).trans ?_
  iintro ⟨%Y, H⟩
  obtain ⟨X, hX⟩ := glue (F := F) r hd hcov Y
  iexists X
  iapply (show (bigSep Finset.univ fun t => (own c (M.slice (r t) (hr t)) (Y t) : sProp 𝕄)) ⊢ own c M X from by
    rw [bigSep_congr fun t _ => show (own c (M.slice (r t) (hr t)) (Y t) : sProp 𝕄) = own c (M.slice (r t) (hr t)) (fun j => X ((r t).emb j)) from by
      rw [show (fun j => X ((r t).emb j)) = Y t from funext fun j => hX t j]]
    exact owns_of_rects (c : Thread nD τ) M fullShare r hr hd hcov X) $$ H

end Family

/-! ## The kernel's slots -/

theorem slot_disjoint {n : ℕ} {s : Shape} {size : Fin s.rank → ℕ} (a : Fin s.rank) (off : Fin n → Fin s.rank → ℕ) (inb : ∀ k a, off k a + size a ≤ s.size a)
    (ho : ∀ k, off k a = size a * k.val) (k k' : Fin n) (h : k ≠ k') :
    Disjoint (Rect.unit (s := s) (off k) size (inb k)).set (Rect.unit (s := s) (off k') size (inb k')).set := by
  refine Rect.unit_disjoint a ?_
  rw [ho, ho]
  rcases Nat.lt_or_gt_of_ne (fun e => h (Fin.ext e)) with h | h
  · left; rw [← Nat.mul_succ]; exact Nat.mul_le_mul_left _ h
  · right; rw [← Nat.mul_succ]; exact Nat.mul_le_mul_left _ h

theorem slot_cover {n : ℕ} {s : Shape} {size : Fin s.rank → ℕ} (a : Fin s.rank) (off : Fin n → Fin s.rank → ℕ) (inb : ∀ k a, off k a + size a ≤ s.size a)
    (ho : ∀ k, off k a = size a * k.val) (hs : size a * n = s.size a) (h0 : 0 < size a) (hz : ∀ k b, b ≠ a → off k b = 0) (hf : ∀ b, b ≠ a → size b = s.size b) :
    Finset.univ.biUnion (fun k => (Rect.unit (s := s) (off k) size (inb k)).set) = Finset.univ := by
  ext i
  refine ⟨fun _ => Finset.mem_univ _, fun _ => ?_⟩
  have hlt : (i a).val / size a < n := Nat.div_lt_of_lt_mul (by rw [hs]; exact (i a).isLt)
  refine Finset.mem_biUnion.mpr ⟨⟨(i a).val / size a, hlt⟩, Finset.mem_univ _, Rect.mem_set_unit.mpr fun b => ?_⟩
  by_cases hb : b = a
  · subst hb
    rw [ho]
    have h1 := Nat.div_add_mod (i b).val (size b)
    have h2 := Nat.mod_lt (i b).val h0
    show size b * ((i b).val / size b) ≤ _ ∧ _ < size b * ((i b).val / size b) + _
    omega
  · rw [hz _ b hb, hf b hb]; exact ⟨Nat.zero_le _, by rw [Nat.zero_add]; exact (i b).isLt⟩

theorem wSlot_at : ∀ k : Fin 4, (![k.val, 0, 0] : Fin S4x4096x256.rank → ℕ) (0 : Fin 3) = S1x4096x256.size (0 : Fin 3) * k.val := by decide
theorem wSlot_zero : ∀ (k : Fin 4) (b : Fin S4x4096x256.rank), b ≠ (0 : Fin 3) → (![k.val, 0, 0] : Fin S4x4096x256.rank → ℕ) b = 0 := by decide
theorem wSlot_full : ∀ b : Fin S4x4096x256.rank, b ≠ (0 : Fin 3) → S1x4096x256.size b = S4x4096x256.size b := by decide
theorem wSlot_disj (k k' : Fin 4) (h : k ≠ k') : Disjoint (wSlotR k).set (wSlotR k').set :=
  slot_disjoint (n := 4) (s := S4x4096x256) (size := S1x4096x256.size) (0 : Fin 3) (fun k : Fin 4 => ![k.val, 0, 0]) wSlot_inb wSlot_at k k' h
theorem wSlot_cover : Finset.univ.biUnion (fun k : Fin 4 => (wSlotR k).set) = Finset.univ :=
  slot_cover (n := 4) (s := S4x4096x256) (size := S1x4096x256.size) (0 : Fin 3) (fun k : Fin 4 => ![k.val, 0, 0]) wSlot_inb wSlot_at (by decide) (by decide) wSlot_zero wSlot_full

theorem sSlot_at : ∀ k : Fin 7, (![k.val, 0, 0] : Fin S7x512x256.rank → ℕ) (0 : Fin 3) = S1x512x256.size (0 : Fin 3) * k.val := by decide
theorem sSlot_zero : ∀ (k : Fin 7) (b : Fin S7x512x256.rank), b ≠ (0 : Fin 3) → (![k.val, 0, 0] : Fin S7x512x256.rank → ℕ) b = 0 := by decide
theorem sSlot_full : ∀ b : Fin S7x512x256.rank, b ≠ (0 : Fin 3) → S1x512x256.size b = S7x512x256.size b := by decide
theorem sSlot_disj (k k' : Fin 7) (h : k ≠ k') : Disjoint (sSlotR k).set (sSlotR k').set :=
  slot_disjoint (n := 7) (s := S7x512x256) (size := S1x512x256.size) (0 : Fin 3) (fun k : Fin 7 => ![k.val, 0, 0]) sSlot_inb sSlot_at k k' h
theorem sSlot_cover : Finset.univ.biUnion (fun k : Fin 7 => (sSlotR k).set) = Finset.univ :=
  slot_cover (n := 7) (s := S7x512x256) (size := S1x512x256.size) (0 : Fin 3) (fun k : Fin 7 => ![k.val, 0, 0]) sSlot_inb sSlot_at (by decide) (by decide) sSlot_zero sSlot_full

theorem eSlot_at : ∀ k : Fin 8, (![k.val, 0, 0] : Fin S8x512x256.rank → ℕ) (0 : Fin 3) = S1x512x256.size (0 : Fin 3) * k.val := by decide
theorem eSlot_zero : ∀ (k : Fin 8) (b : Fin S8x512x256.rank), b ≠ (0 : Fin 3) → (![k.val, 0, 0] : Fin S8x512x256.rank → ℕ) b = 0 := by decide
theorem eSlot_full : ∀ b : Fin S8x512x256.rank, b ≠ (0 : Fin 3) → S1x512x256.size b = S8x512x256.size b := by decide
theorem eSlot_disj (k k' : Fin 8) (h : k ≠ k') : Disjoint (eSlotR k).set (eSlotR k').set :=
  slot_disjoint (n := 8) (s := S8x512x256) (size := S1x512x256.size) (0 : Fin 3) (fun k : Fin 8 => ![k.val, 0, 0]) eSlot_inb eSlot_at k k' h
theorem eSlot_cover : Finset.univ.biUnion (fun k : Fin 8 => (eSlotR k).set) = Finset.univ :=
  slot_cover (n := 8) (s := S8x512x256) (size := S1x512x256.size) (0 : Fin 3) (fun k : Fin 8 => ![k.val, 0, 0]) eSlot_inb eSlot_at (by decide) (by decide) eSlot_zero eSlot_full

theorem wCol_at : ∀ k : Fin 8, (![0, 256 * k.val] : Fin S4096x2048.rank → ℕ) (1 : Fin 2) = S4096x256.size (1 : Fin 2) * k.val := by decide
theorem wCol_zero : ∀ (k : Fin 8) (b : Fin S4096x2048.rank), b ≠ (1 : Fin 2) → (![0, 256 * k.val] : Fin S4096x2048.rank → ℕ) b = 0 := by decide
theorem wCol_full : ∀ b : Fin S4096x2048.rank, b ≠ (1 : Fin 2) → S4096x256.size b = S4096x2048.size b := by decide
theorem wCol_disj (k k' : Fin 8) (h : k ≠ k') : Disjoint (wColR k).set (wColR k').set :=
  slot_disjoint (n := 8) (s := S4096x2048) (size := S4096x256.size) (1 : Fin 2) (fun k : Fin 8 => ![0, 256 * k.val]) wCol_inb wCol_at k k' h
theorem wCol_cover : Finset.univ.biUnion (fun k : Fin 8 => (wColR k).set) = Finset.univ :=
  slot_cover (n := 8) (s := S4096x2048) (size := S4096x256.size) (1 : Fin 2) (fun k : Fin 8 => ![0, 256 * k.val]) wCol_inb wCol_at (by decide) (by decide) wCol_zero wCol_full

theorem oRow_at : ∀ k : Fin 8, (![512 * k.val, 0] : Fin S4096x256.rank → ℕ) (0 : Fin 2) = S512x256.size (0 : Fin 2) * k.val := by decide
theorem oRow_zero : ∀ (k : Fin 8) (b : Fin S4096x256.rank), b ≠ (0 : Fin 2) → (![512 * k.val, 0] : Fin S4096x256.rank → ℕ) b = 0 := by decide
theorem oRow_full : ∀ b : Fin S4096x256.rank, b ≠ (0 : Fin 2) → S512x256.size b = S4096x256.size b := by decide
theorem oRow_disj (k k' : Fin 8) (h : k ≠ k') : Disjoint (oRowR k).set (oRowR k').set :=
  slot_disjoint (n := 8) (s := S4096x256) (size := S512x256.size) (0 : Fin 2) (fun k : Fin 8 => ![512 * k.val, 0]) oRow_inb oRow_at k k' h
theorem oRow_cover : Finset.univ.biUnion (fun k : Fin 8 => (oRowR k).set) = Finset.univ :=
  slot_cover (n := 8) (s := S4096x256) (size := S512x256.size) (0 : Fin 2) (fun k : Fin 8 => ![512 * k.val, 0]) oRow_inb oRow_at (by decide) (by decide) oRow_zero oRow_full

/-! ## The result -/

variable (m : (ℓ : Loc nD τ sig) → Buf (Elt F) ℓ) (c : Dev nD)

theorem blk_lt (i : S4096x256.Idx) : (i 0).val / 512 < 8 := Nat.div_lt_of_lt_mul (show (i 0).val < 512 * 8 from (i 0).isLt)
/-- The block of rows an index of the result lies in, and where in it. -/
def blkOf (i : S4096x256.Idx) : Dev nD := ⟨(i 0).val / 512, blk_lt i⟩
def inBlk (i : S4096x256.Idx) : S512x256.Idx := fun
  | ⟨0, _⟩ => ⟨(i 0).val % 512, Nat.mod_lt _ (by decide)⟩
  | ⟨1, _⟩ => i 1
/-- What device `c` leaves in its result. -/
def outA : S4096x256.Idx → Elt F .f32 := fun i => outq m c (blkOf i) (inBlk i)

theorem outA_row (e : Dev nD) : (fun j => outA m c ((oRowR e).emb j)) = outq m c e := by
  funext j
  have h0 : (((oRowR e).emb j) 0 : ℕ) = 512 * e.val + (j 0).val := by rw [Rect.emb_apply]; show 512 * e.val + 1 * _ = _; omega
  have h1 : (((oRowR e).emb j) 1 : ℕ) = (j 1).val := by rw [Rect.emb_apply]; show 0 + 1 * _ = _; omega
  have hj : (j 0).val < 512 := (j 0).isLt
  have hb : blkOf ((oRowR e).emb j) = e := Fin.ext (by show (((oRowR e).emb j) 0 : ℕ) / 512 = _; rw [h0]; omega)
  have hi : inBlk ((oRowR e).emb j) = j := by
    funext a
    match a with
    | ⟨0, _⟩ => exact Fin.ext (by show (((oRowR e).emb j) 0 : ℕ) % 512 = _; rw [h0]; show _ = (j 0).val; omega)
    | ⟨1, _⟩ => exact Fin.ext h1
  unfold outA; rw [hb, hi]

theorem out_join : (bigSep Finset.univ fun e : Dev nD => own c (oR e) (outq m c e)) ⊢ (own c oH (outA m c) : sProp 𝕄) := by
  rw [bigSep_congr fun e _ => show (own c (oR e) (outq m c e) : sProp 𝕄) = own c (oR e) (fun j => outA m c ((oRowR e).emb j)) from congrArg (own c (oR e)) (outA_row m c e).symm]
  exact owns_of_rects (c : Thread nD τ) oH fullShare oRowR (fun _ _ => rfl) oRow_disj oRow_cover (outA m c)

abbrev wv : S4096x2048.Idx → Elt F .f32 := m ((c : Thread nD τ).loc main_arg1)
theorem col_split : (own c wH (wv m c) : sProp 𝕄) ⊢ bigSep Finset.univ fun e : Dev nD => col m c e :=
  owns_rects (c : Thread nD τ) wH fullShare wColR (fun _ _ => rfl) wCol_disj wCol_cover (wv m c)
theorem col_join : (bigSep Finset.univ fun e : Dev nD => col m c e) ⊢ (own c wH (wv m c) : sProp 𝕄) :=
  owns_of_rects (c : Thread nD τ) wH fullShare wColR (fun _ _ => rfl) wCol_disj wCol_cover (wv m c)

end Cert.KernelIdeal.Exchange
-- ==== Proof.KernelIdeal.Ghost.lean ====
/-
The launch of the exchange: its cells and tokens minted and dealt to the devices, and what each device owes.
-/
module

public import proofs.«01_k».proof.Proof.KernelIdeal.Buffers

@[expose] public section

set_option maxRecDepth 65536

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The kernel's own semaphores -/

/-- Those of the local copies, then those of the exchange. -/
abbrev OwnIx : Type := (Unit ⊕ (Fin 4 ⊕ Dev nD)) ⊕ (Fin 7 ⊕ Dev nD)
abbrev osem : OwnIx → SemLoc sig
  | .inl (.inl _) => .dma xSem
  | .inl (.inr (.inl k)) => .dma (wSem k)
  | .inl (.inr (.inr e)) => .dma (oSem e)
  | .inr (.inl k) => .dma (sSem k)
  | .inr (.inr e) => .dma (rSem e)

theorem ownSemFacts : Pipeline.OwnSemFacts cfg0.spec osem := by decide

/-- The semaphores of the local copies at zero. -/
def locals : sProp 𝕄 :=
  iprop(semVal ((c : Thread nD τ), .dma xSem) 0 ∗ (bigSep Finset.univ fun k : Fin 4 => semVal ((c : Thread nD τ), .dma (wSem k)) 0)
    ∗ bigSep Finset.univ fun e : Dev nD => semVal ((c : Thread nD τ), .dma (oSem e)) 0)

omit [FloatOps F] in
theorem ownSems0_eq : (Pipeline.ownSems0 (Ix := Unit) (Name := ℕ) (U := UU) (Lvl := ℕ) (Val := Elt F) (τ := τ) osem c : sProp 𝕄)
    = iprop(locals (F := F) c ∗ (bigSep Finset.univ fun k : Fin 7 => semVal (sendCell c k) 0) ∗ bigSep Finset.univ fun e : Dev nD => semVal (recvCell c e) 0) := by
  unfold Pipeline.ownSems0 locals
  rw [bigSep_univ_sum, bigSep_univ_sum, bigSep_univ_sum, bigSep_univ_sum, show (Finset.univ : Finset Unit) = {()} from rfl, bigSep_singleton]
  rfl
omit [FloatOps F] in
theorem unscopedSems0_eq : (unscopedSems0 c : sProp 𝕄) = semVal (barCell c) 0 := by
  unfold unscopedSems0; rw [bigSep_eq_bigSepL_of_eq [SemLoc.reg bSem] (by decide) (by decide)]; rfl

omit [FloatOps F] in
/-- A family over a device's cells. -/
theorem cells_eq (Φ : CI → sProp (MT nD τ sig Unit (Elt F) ℕ UU ℕ)) :
    bigSep Finset.univ Φ = iprop(Φ iBar ∗ (bigSep Finset.univ fun k : Fin 7 => Φ (iSend k)) ∗ bigSep Finset.univ fun e : Dev nD => Φ (iRecv e)) := by
  rw [bigSep_univ_sum, bigSep_univ_sum, show (Finset.univ : Finset Unit) = {()} from rfl, bigSep_singleton]
  rfl

/-! ## The cells and the tokens minted -/

theorem csem_injective : ∀ i j : CI, csem i = csem j → i = j := by decide
theorem kcell_injective : Function.Injective kcell := by
  rintro ⟨c, i⟩ ⟨c', i'⟩ h
  have h1 : c = c' := congrArg (fun g : GSem nD τ sig => g.1.1) h
  have h2 : i = i' := csem_injective _ _ (congrArg Prod.snd h)
  rw [h1, h2]
def exCells : Finset (GSem nD τ sig) := Finset.univ.map ⟨kcell, kcell_injective⟩

/-- A token of each barrier cell for every device, one of each send cell, one of each receive cell. -/
abbrev TI : Type := Dev nD ⊕ (Fin 7 ⊕ Dev nD)
abbrev tokCell : TI → CI
  | .inl _ => iBar
  | .inr (.inl k) => iSend k
  | .inr (.inr e) => iRecv e
abbrev tokDev (c : Dev nD) : TI → Dev nD
  | .inl d => d
  | .inr (.inl _) => c
  | .inr (.inr e) => e
theorem tok_injective : ∀ (c : Dev nD) (i j : TI), tokCell i = tokCell j → tokDev c i = tokDev c j → i = j := by
  rintro c (d | k | e) (d' | k' | e') h h' <;> first | (cases h; done) | skip
  · exact congrArg _ h'
  · cases h; rfl
  · cases h; rfl
abbrev tokOf (ci : Dev nD × TI) : GSem nD τ sig × ℕ × Dev nD := (kcell (ci.1, tokCell ci.2), 0, tokDev ci.1 ci.2)
theorem tokOf_injective : Function.Injective tokOf := by
  rintro ⟨c, i⟩ ⟨c', i'⟩ h
  have h0 := kcell_injective (congrArg Prod.fst h)
  have h1 : c = c' := congrArg Prod.fst h0
  subst h1
  rw [tok_injective c i i' (congrArg Prod.snd h0) (congrArg (fun x : GSem nD τ sig × ℕ × Dev nD => x.2.2) h)]
def exToks : Finset (GSem nD τ sig × ℕ × Dev nD) := Finset.univ.map ⟨tokOf, tokOf_injective⟩

def u₀ : UU :=
  (initOf (Pipeline.cells cfgs cellOf_inj) (Pipeline.launchToks cfgs cellOf_inj), (initOf exCells exToks, 1))

omit [FloatOps F] in
theorem ownU_split (a : UR sig nD τ) (b : UB) : (ownU ((a, (b, 1)) : UU) : sProp 𝕄) ⊢ iprop(BI.own (EP (F := F) a) ∗ BI.own (ER (F := F) b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells, -/
def toks : sProp 𝕄 :=
  iprop((bigSep Finset.univ fun d : Dev nD => dutyTok ER (barCell c) 0 d) ∗ (bigSep Finset.univ fun k : Fin 7 => dutyTok ER (sendCell c k) 0 c)
    ∗ bigSep Finset.univ fun e : Dev nD => dutyTok ER (recvCell c e) 0 e)
/-- and of the duties it pays. -/
def payToks : sProp 𝕄 :=
  iprop((bigSep Finset.univ fun p : Dev nD => dutyTok ER (barCell p) 0 c) ∗ (bigSep Finset.univ fun k : Fin 7 => dutyTok ER (sendCell c k) 0 c)
    ∗ bigSep Finset.univ fun p : Dev nD => dutyTok ER (recvCell p c) 0 c)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun (c d : Dev nD) => (dutyTok ER (barCell c) 0 d : sProp 𝕄)), bigSep_univ_comm (fun (c e : Dev nD) => (dutyTok ER (recvCell c e) 0 e : sProp 𝕄))]

/-- What the launch deals device `c`, -/
def G : sProp 𝕄 :=
  iprop((bigSep Finset.univ fun i : CI => roundState ER (exRd m) (kcell (c, i)) 0)
    ∗ (bigSep Finset.univ fun i : CI => iprop(atPos ER (kcell (c, i)) 0 ∅ 0 ∗ reached ER (kcell (c, i)) 0)) ∗ toks c)

/-- what is known to every device, -/
def records (K : Dev nD × CI → ℕ) : sProp 𝕄 :=
  iprop((bigSep Finset.univ fun ci : Dev nD × CI => cellInv ER (exRd m) (K ci) (kcell ci))
    ∗ bigSep Finset.univ fun ci : Dev nD × CI => reached ER (kcell ci) 0)
instance records_persistent (K : Dev nD × CI → ℕ) : BI.Persistent (records m K) := by unfold records; infer_instance
/-- what stays with device `c`, -/
def linear : sProp 𝕄 := iprop(locals (F := F) c ∗ (bigSep Finset.univ fun i : CI => atPos ER (kcell (c, i)) 0 ∅ 0) ∗ payToks c)
/-- and both. -/
def G' : sProp 𝕄 := iprop(∃ K, records m K ∗ linear c)

theorem fund : BI.own (ER (F := F) (initOf exCells exToks)) ⊢ (|==> bigSep Finset.univ (G m) : sProp 𝕄) := by
  have hX (Φ : GSem nD τ sig → sProp (MT nD τ sig Unit (Elt F) ℕ UU ℕ)) : bigSep exCells Φ = bigSep Finset.univ fun c : Dev nD => bigSep Finset.univ fun i : CI => Φ (kcell (c, i)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun i : CI => iprop(∃ κ : ℕ, cellInv ER (exRd m) κ (kcell (c, i))))
          ∗ (bigSep Finset.univ fun i : CI => iprop(atPos ER (kcell (c, i)) 0 ∅ 0 ∗ reached ER (kcell (c, i)) 0)) ∗ toks c ∗ locals (F := F) c) : sProp 𝕄) := by
  unfold G
  rw [ownSems0_eq, unscopedSems0_eq]
  iintro ⟨⟨Hloc, HS, HR⟩, HB, Hst, Hat, Htok⟩
  imod (show iprop((bigSep Finset.univ fun i : CI => semVal (kcell (c, i)) 0) ∗ bigSep Finset.univ fun i : CI => roundState ER (exRd m) (kcell (c, i)) 0)
      ⊢ (|={Set.univ}=> bigSep Finset.univ fun i : CI => iprop(∃ κ : ℕ, cellInv ER (exRd m) κ (kcell (c, i))) : sProp 𝕄) from by
        rw [← bigSep_sep']
        exact (bigSep_mono fun i _ => (Rounds.body_intro ER (exRd m) (kcell (c, i))).trans inv_alloc).trans (bigSep_fupd _ _)) $$ [HS HR HB Hst] with Hinv
  · isplitr [Hst]
    · iapply (Entails.of_eq (cells_eq (F := F) fun i => semVal (kcell (c, i)) 0).symm)
      isplitl [HB]; · iexact HB
      isplitl [HS] <;> iassumption
    iexact Hst
  imodintro
  isplitl [Hinv]; · iexact Hinv
  isplitl [Hat]; · iexact Hat
  isplitl [Htok] <;> iassumption

theorem regroup :
    (bigSep Finset.univ fun c : Dev nD => iprop((bigSep Finset.univ fun i : CI => iprop(∃ κ : ℕ, cellInv ER (exRd m) κ (kcell (c, i))))
          ∗ (bigSep Finset.univ fun i : CI => iprop(atPos ER (kcell (c, i)) 0 ∅ 0 ∗ reached ER (kcell (c, i)) 0)) ∗ toks c ∗ locals (F := F) c) : sProp 𝕄)
      ⊢ bigSep Finset.univ (G' m) := by
  rw [bigSep_sep', bigSep_sep', bigSep_sep', ← bigSep_univ_prod (fun ci : Dev nD × CI => iprop(∃ κ : ℕ, cellInv ER (exRd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hloc⟩
  ihave HK := (BI.bigSep_exists_pi Finset.univ (fun (ci : Dev nD × CI) (κ : ℕ) => (cellInv ER (exRd m) κ (kcell ci) : sProp 𝕄))) $$ HI
  icases HK with ⟨%K, #HI⟩
  ihave Htk := (toks_around (F := F)) $$ Htok
  iapply (BI.bigSep_with_persistent (R := records m K) (Φ := fun c : Dev nD => linear (F := F) c) fun c _ => show iprop(records m K ∗ linear c) ⊢ G' m c from by
    unfold G'; iintro H; iexists K; iexact H)
  isplitr
  · unfold records; isplitl; · iexact HI
    iexact HR
  · unfold linear; simp only [bigSep_sep']
    isplitl [Hloc]; · iexact Hloc
    isplitl [Hat] <;> iassumption

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed at launch -/

abbrev O₀ (d : Dev nD) : CellTallies nD τ sig Unit := OB d 7

theorem bar_ne_recv (a b e : Dev nD) : barCell a ≠ recvCell b e := fun h => nomatch congrArg Prod.snd h
theorem bar_iff (a b : Dev nD) : barCell a = barCell b ↔ a = b :=
  ⟨fun h => congrArg (fun g : GSem nD τ sig => g.1.1) h, fun h => by rw [h]⟩
theorem recv_iff (a b e e' : Dev nD) : recvCell a e = recvCell b e' ↔ a = b ∧ e = e' :=
  ⟨fun h => by
    have := kcell_injective (a₁ := (a, iRecv e)) (a₂ := (b, iRecv e')) h
    exact ⟨congrArg Prod.fst this, Sum.inr_injective (Sum.inr_injective (congrArg Prod.snd this))⟩, fun h => by rw [h.1, h.2]⟩

/-- How often `d` raises `c`'s barrier, -/
abbrev barN (d c : Dev nD) : ℕ := ∑ k : Fin 7, if c = peer d (k.val + 1) then 1 else 0
/-- and sends to its cell `e`. -/
abbrev recvN (d c e : Dev nD) : ℕ := ∑ k : Fin 7, if c = peer d (k.val + 1) ∧ e = d then 1 else 0

theorem OS_bar (d c : Dev nD) : ∀ n, OS d n (barCell c) () = 0
  | 0 => rfl
  | n + 1 => by
    show (OS d n + tallyAt (recvCell (peer d (7 - n)) d) () N) (barCell c) () = 0
    rw [Pi.add_apply, Finsupp.add_apply, OS_bar d c n, tallyAt_apply, if_neg fun h => bar_ne_recv _ _ _ h.1]
theorem OB_bar (d c : Dev nD) : O₀ d (barCell c) () = barN d c := by
  have step (n : ℕ) : OB d (n + 1) (barCell c) () = OB d n (barCell c) () + if c = peer d (7 - n) then 1 else 0 := by
    show (OB d n + tallyAt (barCell (peer d (7 - n))) () 1) (barCell c) () = _
    rw [Pi.add_apply, Finsupp.add_apply, tallyAt_apply]
    congr 1
    simp only [bar_iff, and_true]
  have base : OB d 0 (barCell c) () = 0 := OS_bar d c 7
  unfold barN O₀
  rw [step, step, step, step, step, step, step, base, Fin.sum_univ_seven]
  show 0 + _ + _ + _ + _ + _ + _ + _ = _
  simp only [Fin.isValue, Fin.val_zero, Fin.val_one]
  show 0 + (if c = peer d 7 then 1 else 0) + (if c = peer d 6 then 1 else 0) + (if c = peer d 5 then 1 else 0) + (if c = peer d 4 then 1 else 0) + (if c = peer d 3 then 1 else 0)
    + (if c = peer d 2 then 1 else 0) + (if c = peer d 1 then 1 else 0) = (if c = peer d 1 then 1 else 0) + (if c = peer d 2 then 1 else 0) + (if c = peer d 3 then 1 else 0)
    + (if c = peer d 4 then 1 else 0) + (if c = peer d 5 then 1 else 0) + (if c = peer d 6 then 1 else 0) + (if c = peer d 7 then 1 else 0)
  omega
theorem OB_recv (d c e : Dev nD) : O₀ d (recvCell c e) () = N * recvN d c e := by
  have step (n : ℕ) : OB d (n + 1) (recvCell c e) () = OB d n (recvCell c e) () := by
    show (OB d n + tallyAt (barCell (peer d (7 - n))) () 1) (recvCell c e) () = _
    rw [Pi.add_apply, Finsupp.add_apply, tallyAt_apply, if_neg fun h => bar_ne_recv _ _ _ h.1.symm, Nat.add_zero]
  have step' (n : ℕ) : OS d (n + 1) (recvCell c e) () = OS d n (recvCell c e) () + N * if c = peer d (7 - n) ∧ e = d then 1 else 0 := by
    show (OS d n + tallyAt (recvCell (peer d (7 - n)) d) () N) (recvCell c e) () = _
    rw [Pi.add_apply, Finsupp.add_apply, tallyAt_apply]
    congr 1
    simp only [recv_iff, and_true]
    split <;> simp only [Nat.mul_one, Nat.mul_zero]
  have base : OS d 0 (recvCell c e) () = 0 := rfl
  unfold recvN O₀
  rw [step, step, step, step, step, step, step]
  show OS d 7 (recvCell c e) () = _
  rw [step', step', step', step', step', step', step', base, Fin.sum_univ_seven]
  generalize N = n
  show 0 + n * (if c = peer d 7 ∧ e = d then 1 else 0) + n * (if c = peer d 6 ∧ e = d then 1 else 0) + n * (if c = peer d 5 ∧ e = d then 1 else 0)
      + n * (if c = peer d 4 ∧ e = d then 1 else 0) + n * (if c = peer d 3 ∧ e = d then 1 else 0) + n * (if c = peer d 2 ∧ e = d then 1 else 0) + n * (if c = peer d 1 ∧ e = d then 1 else 0)
    = n * ((if c = peer d 1 ∧ e = d then 1 else 0) + (if c = peer d 2 ∧ e = d then 1 else 0) + (if c = peer d 3 ∧ e = d then 1 else 0) + (if c = peer d 4 ∧ e = d then 1 else 0)
      + (if c = peer d 5 ∧ e = d then 1 else 0) + (if c = peer d 6 ∧ e = d then 1 else 0) + (if c = peer d 7 ∧ e = d then 1 else 0))
  simp only [Nat.mul_add]
  omega

theorem barN_sum : ∀ c : Dev nD, (∑ d : Dev nD, barN d c) = 7 := by decide +kernel
theorem recvN_sum : ∀ c e : Dev nD, e ≠ c → (∑ d : Dev nD, recvN d c e) = 1 := by decide +kernel

theorem launch_bar : tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => OB_bar d c, barN_sum]
theorem launch_recv {e : Dev nD} (h : e ≠ c) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => OB_recv d c e, ← Finset.mul_sum, recvN_sum c e h, Nat.mul_one]

omit [FloatOps F] in
theorem creds : (Pipeline.launchCred O₀ c : sProp 𝕄)
    ⊢ iprop(cred (tallyAt (barCell c) () 7) ∗ bigSep (Finset.univ.erase c) fun e : Dev nD => cred (tallyAt (recvCell c e) () N)) := by
  unfold Pipeline.launchCred
  rw [bigSep_univ_at _ (SemLoc.reg bSem), launch_bar]
  refine sep_mono_right ?_
  have inj : Set.InjOn (fun e : Dev nD => SemLoc.dma (sig := sig) (rSem e)) (Finset.univ.erase c : Finset (Dev nD)) :=
    fun e _ e' _ h => Sum.inr_injective (Sum.inr_injective (csem_injective (iRecv e) (iRecv e') h))
  rw [BI.bigSep_sdiff_split (t := (Finset.univ.erase c).image fun e : Dev nD => SemLoc.dma (rSem e)) (fun x hx => by
    obtain ⟨e, -, rfl⟩ := Finset.mem_image.mp hx
    exact Finset.mem_erase.mpr ⟨fun h => (nomatch h), Finset.mem_univ _⟩), BI.bigSep_image_of_injOn inj]
  show (iprop(_ ∗ _) : sProp 𝕄) ⊢ _
  iintro ⟨H, -⟩
  iapply (show (bigSep (Finset.univ.erase c) fun e : Dev nD => (cred (tallyOn (recvCell c e) (launchCredit (Pipeline.owing O₀) 0 (recvCell c e))) : sProp 𝕄))
    ⊢ bigSep (Finset.univ.erase c) fun e : Dev nD => cred (tallyAt (recvCell c e) () N) from
      Entails.of_eq (bigSep_congr fun e he => by rw [launch_recv c (Finset.ne_of_mem_erase he)])) $$ H

end Cert.KernelIdeal.Exchange
-- ==== Proof.KernelIdeal.Run.lean ====
/-
The run: each device's start and end of the body, the launch, and what the final states hold.
-/
module

public import proofs.«01_k».proof.Proof.KernelIdeal.Ghost
public import proofs.«01_k».proof.Proof.Gen.KernelIdeal.Points
public import Idealize.ShloMosaic.Lib.Pipeline.CollectiveSegs

@[expose] public section

set_option maxRecDepth 65536

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device has before the body and after it -/

/-- The scratch buffers, -/
def bufs : sProp 𝕄 := iprop(some_ c xV ∗ some_ c wV ∗ some_ c sV ∗ some_ c rV ∗ some_ c yV)
/-- the arguments and the result before the body, -/
def args : sProp 𝕄 := iprop(own c xH (xv m c) ∗ own c wH (wv m c) ∗ some_ c oH)
/-- what it may wait for, -/
def dues : sProp 𝕄 := iprop(cred (tallyAt (barCell c) () 7) ∗ bigSep (Finset.univ.erase c) fun e : Dev nD => cred (tallyAt (recvCell c e) () N))
/-- all that it starts with, -/
def start : sProp 𝕄 := iprop(G' m c ∗ dues c ∗ levAts L lv ∗ args m c)
def Φ₀ : sProp 𝕄 := iprop(start m c ∗ bufs c)
/-- the arguments and the result afterwards, -/
def results : sProp 𝕄 := iprop(own c xH (xv m c) ∗ own c wH (wv m c) ∗ own c oH (outA m c))
def Φ₁ : sProp 𝕄 :=
  iprop((results m c ∗ semVal (barCell c) 0)
    ∗ (locals (F := F) c ∗ (bigSep Finset.univ fun k : Fin 7 => semVal (sendCell c k) 0) ∗ bigSep Finset.univ fun e : Dev nD => semVal (recvCell c e) 0) ∗ bufs c)

theorem prep : iprop(linear (F := F) c ∗ dues c ∗ args m c ∗ bufs c) ⊢ iprop(Start m c ∗ some_ (F := F) c (rS c)) := by
  unfold linear locals dues args bufs payToks Start wfree toSig half toTake toOut
  simp only [bigSep_sep']
  iintro ⟨⟨⟨Vx, Vw, Vo⟩, Hat, Tb, Ts, Tr⟩, ⟨Cb, Cr⟩, ⟨Hx, Hw, Ho⟩, Bx, Bw, Bs, Br, By⟩
  ihave Hat := (Entails.of_eq (cells_eq (fun i : CI => (atPos ER (kcell (c, i)) 0 ∅ 0 : sProp 𝕄)))) $$ Hat
  icases Hat with ⟨Ab, As, Ar⟩
  ihave Ar := (Entails.of_eq (everyone c (fun e => (atPos ER (kcell (c, iRecv e)) 0 ∅ 0 : sProp 𝕄)))) $$ Ar
  icases Ar with ⟨Ac, Ar⟩
  ihave Tb := (Entails.of_eq (everyone c (fun p => (dutyTok ER (barCell p) 0 c : sProp 𝕄)))) $$ Tb
  icases Tb with ⟨-, Tb⟩
  ihave Tr := (Entails.of_eq (everyone c (fun p => (dutyTok ER (recvCell p c) 0 c : sProp 𝕄)))) $$ Tr
  icases Tr with ⟨-, Tr⟩
  ihave Cr := (Entails.of_eq (around c (fun e => (cred (tallyAt (recvCell c e) () N) : sProp 𝕄)))) $$ Cr
  ihave Vo := (Entails.of_eq (everyone c (fun e => (semVal ((c : Thread nD τ), .dma (oSem e)) 0 : sProp 𝕄)))) $$ Vo
  icases Vo with ⟨Voc, Vo⟩
  ihave Hw := (col_split m c) $$ Hw
  ihave Ho := (some_split c oH oRowR (fun _ _ => rfl) oRow_disj oRow_cover) $$ Ho
  ihave Ho := (Entails.of_eq (everyone c (fun e => some_ (F := F) c (oR e)))) $$ Ho
  icases Ho with ⟨Hoc, Ho⟩
  ihave Bw := (some_split c wV wSlotR (fun _ _ => rfl) wSlot_disj wSlot_cover) $$ Bw
  ihave Bs := (some_split c sV sSlotR (fun _ _ => rfl) sSlot_disj sSlot_cover) $$ Bs
  ihave Br := (some_split c rV eSlotR (fun _ _ => rfl) eSlot_disj eSlot_cover) $$ Br
  ihave Br := (Entails.of_eq (everyone c (fun e => some_ (F := F) c (rS e)))) $$ Br
  icases Br with ⟨Brc, Br⟩
  ihave By := (some_split c yV eSlotR (fun _ _ => rfl) eSlot_disj eSlot_cover) $$ By
  ihave By := (Entails.of_eq (everyone c (fun e => some_ (F := F) c (yS e)))) $$ By
  icases By with ⟨Byc, By⟩
  ihave Bw := (show (bigSep Finset.univ fun k : Fin 4 => some_ (F := F) c (wS k)) ⊢ (bigSep Finset.univ fun k : Fin 4 => some_ (F := F) c (wQ k) : sProp 𝕄) from
    bigSep_mono fun k _ => some_unsqueeze c (wS k) squeezes_S1x4096x256_S4096x256) $$ Bw
  ihave Br := (show (bigSep Finset.univ fun k : Fin 7 => some_ (F := F) c (rS (peer c (k.val + 1)))) ⊢ (bigSep Finset.univ fun k : Fin 7 => some_ (F := F) c (rQ (peer c (k.val + 1))) : sProp 𝕄) from
    bigSep_mono fun k _ => some_unsqueeze c (rS (peer c (k.val + 1))) squeezes_S1x512x256_S512x256) $$ Br
  isplitr [Brc]
  · isplitl [Hx Bx Vx]
    · isplitl [Hx]; · iexact Hx
      isplitl [Bx]; · iexact Bx
      iexact Vx
    isplitl [Hw]; · iexact Hw
    isplitl [Bw Vw]
    · isplitl [Bw]; · iexact Bw
      iexact Vw
    isplitl [Tb Br]
    · isplitl [Tb]; · iexact Tb
      iexact Br
    isplitl [Bs Ts Tr]
    · isplitl [Bs]; · iexact Bs
      isplitl [Ts]; · iexact Ts
      iexact Tr
    isplitl [As]; · iexact As
    isplitl [Ar Cr By Ho Vo]
    · isplitl [Ar]; · iexact Ar
      isplitl [Cr]; · iexact Cr
      isplitl [By]; · iexact By
      isplitl [Ho]; · iexact Ho
      iexact Vo
    isplitl [Byc Hoc Voc Ac]
    · isplitr [Ac]
      · isplitl [Byc]; · iexact Byc
        isplitl [Hoc]; · iexact Hoc
        iexact Voc
      iexact Ac
    isplitl [Ab]; · iexact Ab
    iexact Cb
  iexact Brc

theorem done : iprop(End m c ∗ some_ (F := F) c (rS c)) ⊢ Φ₁ m c := by
  unfold Φ₁ results locals bufs End wfree outdone
  simp only [bigSep_sep']
  iintro ⟨⟨⟨Hx, Bx, Vx⟩, Hw, ⟨Bw, Vw⟩, ⟨Vs, Bs⟩, ⟨Vr, Br⟩, ⟨Ho, By, Vo⟩, Vrc, Vb⟩, Brc⟩
  ihave Hw := (col_join m c) $$ Hw
  ihave Ho := (out_join m c) $$ Ho
  ihave Vr := (Entails.of_eq (everyone c (fun e => (semVal (recvCell c e) 0 : sProp 𝕄))).symm) $$ [Vr Vrc]
  · isplitl [Vrc]; · iexact Vrc
    iexact Vr
  ihave Br := (Entails.of_eq (everyone c (fun e => some_ (F := F) c (rS e))).symm) $$ [Br Brc]
  · isplitl [Brc]; · iexact Brc
    iexact Br
  ihave Br := (some_join c rV eSlotR (fun _ _ => rfl) eSlot_disj eSlot_cover) $$ Br
  ihave By := (some_join c yV eSlotR (fun _ _ => rfl) eSlot_disj eSlot_cover) $$ By
  ihave Bs := (some_join c sV sSlotR (fun _ _ => rfl) sSlot_disj sSlot_cover) $$ Bs
  ihave Bw := (show (bigSep Finset.univ fun k : Fin 4 => some_ (F := F) c (wQ k)) ⊢ (bigSep Finset.univ fun k : Fin 4 => some_ (F := F) c (wS k) : sProp 𝕄) from
    bigSep_mono fun k _ => some_squeeze c (wS k) squeezes_S1x4096x256_S4096x256) $$ Bw
  ihave Bw := (some_join c wV wSlotR (fun _ _ => rfl) wSlot_disj wSlot_cover) $$ Bw
  isplitl [Hx Hw Ho Vb]
  · isplitr [Vb]
    · isplitl [Hx]; · iexact Hx
      isplitl [Hw]; · iexact Hw
      iexact Ho
    iexact Vb
  isplitl [Vx Vw Vo Vs Vr]
  · isplitl [Vx Vw Vo]
    · isplitl [Vx]; · iexact Vx
      isplitl [Vw]; · iexact Vw
      iexact Vo
    isplitl [Vs]; · iexact Vs
    iexact Vr
  isplitl [Bx]; · iexact Bx
  isplitl [Bw]; · iexact Bw
  isplitl [Bs]; · iexact Bs
  isplitl [Br]; · iexact Br
  iexact By

/-! ## The one region -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stx m c
    | ⟨1, _⟩ => stw m c
  Φ t := match t with
    | ⟨0, _⟩ => Φ₀ m c
    | ⟨_ + 1, _⟩ => Φ₁ m c
  q _ := fullShare
  owed t := match t with
    | ⟨0, _⟩ => OB c 7
    | ⟨_ + 1, _⟩ => 0

theorem before0 (d) : (dats m ρ 0 c).before (0 : Fin 2) t0_0 d = stx m c := by unfold Dat.before; rw [if_pos (fetch0_0 t0_0)]; rfl
theorem before1 (d) : (dats m ρ 0 c).before (1 : Fin 2) t0_0 d = stw m c := by unfold Dat.before; rw [if_pos (fetch0_1 t0_0)]; rfl

def bodyPre : sProp 𝕄 :=
  iprop(Φ₀ m c ∗ (dats m ρ 0 c).owesAt () t0_0.castSucc
    ∗ (∃ d, own c (Memref.whole cc0_stg0_0) ((dats m ρ 0 c).before (0 : Fin 2) t0_0 d))
    ∗ (∃ d, own c (Memref.whole cc0_stg1_0) ((dats m ρ 0 c).before (1 : Fin 2) t0_0 d)))
def bodyPost : sProp 𝕄 :=
  iprop(Φ₁ m c ∗ (dats m ρ 0 c).owesAt () t0_0.succ ∗ own c (Memref.whole cc0_stg0_0) (stx m c) ∗ own c (Memref.whole cc0_stg1_0) (stw m c))

theorem body_sound {h0 h1 h2 h3 h4 h5 h6 h7 h8 h9} : bodyPre m ρ c ⊢ WP c (cc0_body xH h0 wH h1 gxV h2 gwV h3 oH h4 xV h5 wV h6 sV h7 rV h8 yV h9
      cc0_scratch5 cc0_scratch6 cc0_scratch7 cc0_scratch8 cc0_scratch9) (fun _ => bodyPost m ρ c) := by
  have hx : (gx m c : sProp 𝕄) = (((c : Thread nD τ).loc cc0_stg0_0) ↦{fullShare} stx m c) := rfl
  have hw : (gw m c : sProp 𝕄) = (((c : Thread nD τ).loc cc0_stg1_0) ↦{fullShare} stw m c) := rfl
  unfold bodyPre bodyPost Φ₀ start G' records Dat.owesAt Pipeline.owesWithin
  simp only [before0, before1, owns_whole]
  iintro ⟨⟨⟨⟨%K, ⟨#HI, #HR⟩, HL⟩, HD, #Hlev, HA⟩, HB⟩, ⟨%W, %hW, HO⟩, ⟨%d0, Hx⟩, ⟨%d1, Hw⟩⟩
  ihave HP := (prep m c) $$ [HL HD HA HB]
  · isplitl [HL]; · iexact HL
    isplitl [HD]; · iexact HD
    isplitl [HA]; · iexact HA
    iexact HB
  icases HP with ⟨HS, HF⟩
  iapply (sound_core m K c h0 h1 h2 h3 h4 h5 h6 h7 h8 h9 _) $$ [] [Hx] [Hw] HS [HO] [HF]
  · unfold ctx
    isplitr; · iexact HI
    isplitr; · iexact HR
    iexact Hlev
  · rw [hx]; iexact Hx
  · rw [hw]; iexact Hw
  · unfold owing; iexists W; iexact HO
  unfold owing
  iintro ⟨Hx, Hw, HE, ⟨%W', HO⟩⟩
  isplitl [HE HF]
  · iapply (done m c)
    isplitl [HE] <;> iassumption
  isplitl [HO]
  · iexists W'
    isplitr; · ipureintro; exact fun _ _ => Or.inl trivial
    iexact HO
  isplitl [Hx]
  · ihave H := (Entails.of_eq hx) $$ Hx; iexact H
  · ihave H := (Entails.of_eq hw) $$ Hw; iexact H

/-- The body, as the launch asks for it. -/
theorem body_obligation : BodyObligation (dats (F := F) m ρ 0 c) (defs₀ (F := F)) 𝒱₀ () Set.univ := fun t => by
  rw [fin_N0 t]
  rw [bigSep_W0, bigSep_W0]
  exact body_sound m ρ c

/-! ## The launch's conditions -/

theorem share_eq (w : Fin cfg0.W) : (dats m ρ 0 c).share w = fullShare := by unfold Dat.share; split <;> rfl

omit [FloatOps F] in
theorem some_whole (b : Ref sig .tc) : (some_ (F := F) c (Memref.whole b) : sProp 𝕄) = iprop(∃ f : Buf (Elt F) ((c : Thread nD τ).loc b), ((c : Thread nD τ).loc b) ↦{fullShare} f) := by
  unfold some_; simp only [owns_whole]

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hu, Hlev, Hcr, -, HG⟩
  ihave Hu := (Entails.of_eq (unscopedRest0_eq c (fun b => m ((c : Thread nD τ).loc b)))) $$ Hu
  icases Hu with ⟨Hx, Hw, Ho⟩
  ihave Hd := (creds (F := F) c) $$ Hcr
  imodintro
  unfold start dues args
  isplitl
  · isplitl [HG]; · iexact HG
    isplitl [Hd]; · iexact Hd
    isplitl [Hlev]; · iexact Hlev
    isplitl [Hx]; · iapply (Entails.of_eq (owns_whole (c : Thread nD τ) main_arg0 fullShare (xv m c)).symm); iexact Hx
    isplitl [Hw]; · iapply (Entails.of_eq (owns_whole (c : Thread nD τ) main_arg1 fullShare (wv m c)).symm); iexact Hw
    iapply (Entails.of_eq (some_whole c main_v1).symm); iexists _; iexact Ho
  · iempintro

omit [FloatOps F] in
theorem bufs_eq : (bufs c : sProp 𝕄) = Pipeline.scopedRest cfg0.spec c := by
  unfold bufs
  rw [some_whole, some_whole, some_whole, some_whole, some_whole]
  exact (scopedRest0_eq c).symm

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← bufs_eq]
  unfold Φ₀
  iintro ⟨Hs, -, Hr⟩
  isplitl [Hs] <;> iassumption

theorem phi1_exit :
    (dats m ρ 0 c).Φ (Fin.last cfg0.N) ⊢ iprop((results m c ∗ unscopedSems0 c) ∗ Pipeline.ownSems0 osem c ∗ Pipeline.scopedRest cfg0.spec c) := by
  rw [show (dats m ρ 0 c).Φ (Fin.last cfg0.N) = Φ₁ m c from rfl, ← bufs_eq, ownSems0_eq, unscopedSems0_eq]
  exact Entails.refl _

theorem waits : (levAts L lv : sProp 𝕄) ⊢ Pipeline.cellsWaits cfgs (dats m ρ) () 0 c :=
  Pipeline.cellsWaits_intro cfgs (dats m ρ) () 0 c fun w s t =>
    mayWait_dma c _ (by fin_cases w <;> fin_cases s <;> decide) (by
      rcases t with ⟨_ | _, ht⟩
      · exact above_OB c 7
      · exact above_zero 0)

/-! ## The run -/

/-- What is known of device `c`'s memory afterwards. -/
def Kept (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outA m c

omit [FloatOps F] in
theorem read_one (b : Ref sig .tc) (X : b.ty.Contents (Elt F)) (s' : Phys nD τ sig (Elt F)) :
    iprop(own c (Memref.whole b) X ∗ SI s') ⊢ (iprop(⌜s'.mem.mem ((c : Thread nD τ).loc b) = X⌝ ∗ SI s') : sProp 𝕄) := by
  refine (sep_mono_left (Entails.of_eq (owns_whole (c : Thread nD τ) b fullShare X))).trans ?_
  have h := pointsTo_read_all (Ix := Unit) (Name := ℕ) (U := UU) (Lvl := ℕ) (sig := sig) (Val := Elt F) ({()} : Finset Unit) (fun _ => (c : Thread nD τ).loc b) (fun _ => X) s'
  rw [bigSep_singleton] at h
  refine h.trans ?_
  iintro ⟨%h, HSI⟩
  isplitr; · ipureintro; exact h () (Finset.mem_singleton_self _)
  iexact HSI

theorem read_all (s' : Phys nD τ sig (Elt F)) :
    iprop((results m c ∗ unscopedSems0 c) ∗ emp ∗ SI s') ⊢ (|={Set.univ}=> iprop(⌜Kept m c s'.mem ∧ ∀ sm : SemLoc sig, sm.isScoped .tc = false → s'.mem.sem ((c.tc : Thread nD τ), sm) = 0⌝ ∗ SI s') : sProp 𝕄) := by
  unfold results
  iintro ⟨⟨⟨Hx, Hw, Ho⟩, Hu⟩, -, HSI⟩
  ihave H := (read_one c main_arg0 (xv m c) s') $$ [Hx HSI]
  · isplitl [Hx] <;> iassumption
  icases H with ⟨%hx, HSI⟩
  ihave H := (read_one c main_arg1 (wv m c) s') $$ [Hw HSI]
  · isplitl [Hw] <;> iassumption
  icases H with ⟨%hw, HSI⟩
  ihave H := (read_one c main_v1 (outA m c) s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr; · ipureintro; exact ⟨⟨hx, hw, ho⟩, hs⟩
  iexact HSI

def QC (r : PUnit × MemSt nD τ sig (Elt F)) : Prop :=
  ∀ c : Dev nD, Kept m c r.2 ∧ ∀ w : Fin cfg0.W, r.2.mem ((cfg0.win w).arr.view.loc (c : Thread nD τ)) = (dats m ρ 0 c).arrAt w cfg0.N

/-- From any memory with the counters at zero, whatever the numbers: every fair execution ends, with the result of every device at
    the computed contents, the arguments as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(results m c ∗ unscopedSems0 c)) (Z := fun _ => iprop(emp))
    (hX := start_intro m ρ) (hin := phi0_intro m ρ) (hout := phi1_exit m ρ)
    (QY := fun c s => Kept m c s ∧ ∀ sm : SemLoc sig, sm.isScoped .tc = false → s.sem ((c.tc : Thread nD τ), sm) = 0)
    (hY := read_all m)
    (hQ := fun _ h hs => ⟨fun c => ⟨(h c).2.2.1, fun w => (h c).1 w⟩, sem_eq_zero hs fun c => (h c).2.2.2⟩)

/-- The scales are unchanged. -/
theorem kept_arg (w : Fin cfg0.W) (hw : (cfg0.win w).isOut = false) : (dats m ρ 0 c).arrAt w cfg0.N = m ((cfg0.win w).arr.view.loc (c : Thread nD τ)) :=
  (dats (F := F) m ρ 0 c).arrAt_in w hw _

/-- The run in the words of a claim: the four arguments, the result and the counters. -/
theorem run_all : θ_run defs (onTc (τ := τ) (main (F := F))) ⟨m, fun _ => 0, ρ⟩ (fun r =>
    (∀ c : Dev nD, r.2.mem ((c : Thread nD τ).loc main_v1) = outA m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  (θ_run defs _ _).mono (fun _ h => ⟨fun c => ⟨(h.1 c).1.2.2, (h.1 c).1.1, (h.1 c).1.2.1, ((h.1 c).2 (0 : Fin 2)).trans (kept_arg m ρ c (0 : Fin 2) rfl),
    ((h.1 c).2 (1 : Fin 2)).trans (kept_arg m ρ c (1 : Fin 2) rfl)⟩, h.2⟩) (run_main m ρ)

end Cert.KernelIdeal.Exchange
-- ==== Proof.Value.lean ====
/-
What the kernel leaves, element by element over the extended reals: row `r` and column `l` of device `c`'s result is
the product of row `r` of `x` and column `256 * c + l` of `w`, scaled and cut off below at zero. The reference's result
reads the same.
-/
module

public import proofs.«01_k».proof.Proof.KernelIdeal.Run
public import proofs.«01_k».proof.Proof.Gen.ReferenceIdeal.Run
public import Idealize.ShloMosaic.Lib.Pointwise
public import Idealize.ShloMosaic.Lib.Layout

@[expose] public section

set_option maxRecDepth 65536

noncomputable section

namespace Cert.KernelIdeal.Exchange

open Cert.KernelIdeal Cert.KernelIdeal.Gen

open Idealize.ShloMosaic
open Idealize.ShloMosaic.TcCoe

/-- A scaled product of rows of `x` and columns of `w`, cut off below at zero, at one row and column. -/
def cell (s : EReal) (x : FVec Ideal S512x4096 .f32) (w : FVec Ideal S4096x256 .f32) (j : S512x256.Idx) : EReal :=
  max ((∑ k : Fin 4096, x (ix2 (j 0) k) * w (ix2 k (j 1))) * s) 0

/-- The kernel's chain on a block, before it is sent or stored. -/
def chain (s : Ideal .f32) (x : FVec Ideal S512x4096 .fp8e4m3) (w : FVec Ideal S4096x256 .f32) : FVec Ideal S512x256 .f32 :=
  maximumf (mulf (matmul dot_S512x4096_S4096x256_S512x256_1_0_0_1_n_n none x (truncf .fp8e4m3 w bitsLt_fp8e4m3_f32) (constant S512x256 .f32 0x00000000#32))
    (broadcast S512x256 s)) (broadcast S512x256 (Scalar.ofBits (F := Ideal) .f32 0x00000000#32))

theorem chain_apply (s : Ideal .f32) (x : FVec Ideal S512x4096 .f32) (w : FVec Ideal S4096x256 .f32) (j : S512x256.Idx) :
    chain s (k0_pay2 x) w j = cell s x w j := by
  pointwise [chain, cell, k0_pay2]

variable (m : (ℓ : Loc nD τ sig) → Buf (Elt Ideal) ℓ) (c e : Dev nD)

/-- The slot of `w` read back in the shape it was copied from. -/
theorem wl_cast : shapeCast S4096x256 (wl m c e) shapeCasts_S1x4096x256_S4096x256 = wcv m c e := by
  funext j
  exact congrArg (wcv m c e) (Equiv.symm_apply_apply _ j)

/-- A shape cast to a shape and back reads the element it started from. -/
theorem cast_back {α : Type} (y : S512x256.Idx → α) (j : S512x256.Idx) :
    shapeCast S1x512x256 y shapeCasts_S512x256_S1x512x256 (Shape.reshapeEquiv squeezes_S1x512x256_S512x256.numel_eq j) = y j := by
  pointwise []

/-- The block a device computes for itself, at an element; -/
theorem own_apply (j : S512x256.Idx) :
    k0_pay15 (scl m c) (xf m c) (wl m c c) (Shape.reshapeEquiv squeezes_S1x512x256_S512x256.numel_eq j) = cell (scl m c) (xv m c) (wcv m c c) j := by
  rw [← chain_apply, ← wl_cast]
  exact cast_back (chain (scl m c) (k0_pay2 (xv m c)) (shapeCast S4096x256 (wl m c c) shapeCasts_S1x4096x256_S4096x256)) j

/-- what a device sends, as the chain narrowed, -/
theorem sent_eq (s : Ideal .f32) (x : FVec Ideal S512x4096 .fp8e4m3) (w : FVec Ideal S1x4096x256 .f32) :
    k0_pay3 s x w = shapeCast S1x512x256 (truncf .bf16 (chain s x (shapeCast S4096x256 w shapeCasts_S1x4096x256_S4096x256)) bitsLt_bf16_f32) shapeCasts_S512x256_S1x512x256 := rfl

/-- what it stores of a block received, the block widened, -/
theorem kept_eq (y : FVec Ideal S1x512x256 .bf16) :
    k0_pay16 y = shapeCast S1x512x256 (extf .f32 (shapeCast S512x256 y shapeCasts_S1x512x256_S512x256) bitsLt_bf16_f32) shapeCasts_S512x256_S1x512x256 := rfl

/-- and the block it receives from another device. -/
theorem got_apply (j : S512x256.Idx) :
    k0_pay16 (yb m e c) (Shape.reshapeEquiv squeezes_S1x512x256_S512x256.numel_eq j) = cell (scl m e) (xv m e) (wcv m e c) j := by
  rw [← chain_apply, ← wl_cast]
  show k0_pay16 (k0_pay3 (scl m e) (k0_pay2 (xv m e)) (wl m e c)) _ = _
  rw [sent_eq, kept_eq, cast_back]
  generalize chain _ _ _ = y
  pointwise []

/-- Every element of a device's result. -/
theorem outA_apply (i : S4096x256.Idx) :
    outA m c i = cell (scl m (blkOf i)) (xv m (blkOf i)) (wcv m (blkOf i) c) (inBlk i) := by
  show outs m c (blkOf i) _ = _
  by_cases he : blkOf i = c
  · rw [he, outs_self]
    exact own_apply m c (inBlk i)
  · rw [outs_ne m c he]
    exact got_apply m c (blkOf i) (inBlk i)

/-! ## The arguments as parts of the whole ones -/

variable {X : Cert.ReferenceIdeal.S4096x4096.Idx → EReal} {W : S4096x2048.Idx → EReal} {sx sw : S1.Idx → EReal}

theorem S1_idx (i : S1.Idx) : i = ix1 0 := funext fun a => by
  obtain rfl : a = (0 : Fin 1) := Subsingleton.elim _ _
  exact Subsingleton.elim (α := Fin 1) _ _

/-- The product of the scales. -/
theorem scl_eq (h2 : m ((c : Thread nD τ).loc main_arg2) = sx) (h3 : m ((c : Thread nD τ).loc main_arg3) = sw) :
    scl m c = sx (ix1 0) * sw (ix1 0) := by
  subst h2 h3
  show (show EReal from m ((c : Thread nD τ).loc main_arg2) ((win0_0.blk (0 : Fin 1)).view.emb _)) * (show EReal from m ((c : Thread nD τ).loc main_arg3) ((win0_1.blk (0 : Fin 1)).view.emb _)) = _
  rw [S1_idx ((win0_0.blk (0 : Fin 1)).view.emb _), S1_idx ((win0_1.blk (0 : Fin 1)).view.emb _)]

/-- Column `l` of block `c` of `w` is column `256 * c + l`. -/
theorem wcv_apply (h1 : m ((e : Thread nD τ).loc main_arg1) = W) (k : Fin 4096) (l : Fin 256) (j : S4096x2048.Idx)
    (hk : (j 0).val = k.val) (hl : (j 1).val = c.val * 256 + l.val) : wcv m e c (ix2 k l) = W j := by
  subst h1
  refine congrArg (m ((e : Thread nD τ).loc main_arg1)) ?_
  show (wColR c).emb (ix2 k l) = j
  funext a
  refine Fin.ext ?_
  rw [Rect.emb_apply]
  match a with
  | ⟨0, _⟩ => show 0 + 1 * k.val = _; rw [← hk]; show _ = (j 0).val; omega
  | ⟨1, _⟩ => show 256 * c.val + 1 * l.val = _; show _ = (j 1).val; omega

/-- Row `r` of block `e` of `x` is row `512 * e + r`. -/
theorem xv_apply (h0 : m ((e : Thread nD τ).loc main_arg0) = Layout.block S512x4096 Cert.ReferenceIdeal.S4096x4096 0 8 e X) (r : Fin 512) (k : Fin 4096)
    (j : Cert.ReferenceIdeal.S4096x4096.Idx) (hr : (j 0).val = e.val * 512 + r.val) (hk : (j 1).val = k.val) : xv m e (ix2 r k) = X j := by
  refine (congrFun h0 (ix2 r k)).trans (congrArg X ?_)
  funext a
  refine Fin.ext ?_
  match a with
  | ⟨0, _⟩ => exact hr.symm
  | ⟨1, _⟩ => exact hk.symm

/-- Every element of a device's result from the whole arguments. -/
theorem outA_whole (h : ∀ e : Dev nD, m ((e : Thread nD τ).loc main_arg0) = Layout.block S512x4096 Cert.ReferenceIdeal.S4096x4096 0 8 e X
      ∧ m ((e : Thread nD τ).loc main_arg1) = W ∧ m ((e : Thread nD τ).loc main_arg2) = sx ∧ m ((e : Thread nD τ).loc main_arg3) = sw)
    (i : S4096x256.Idx) (j : S4096x2048.Idx) (h0 : (j 0).val = (i 0).val) (h1 : (j 1).val = c.val * 256 + (i 1).val) :
    outA m c i = max ((∑ k : Fin 4096, X (ix2 (j 0) k) * W (ix2 k (j 1))) * (sx (ix1 0) * sw (ix1 0))) 0 := by
  rw [outA_apply]
  obtain ⟨hx, hw, h2, h3⟩ := h (blkOf i)
  unfold cell
  rw [scl_eq m _ h2 h3]
  refine congrArg (fun t : EReal => max (t * (sx (ix1 0) * sw (ix1 0))) 0) (Finset.sum_congr rfl fun k _ => ?_)
  refine congrArg₂ (fun a b : EReal => a * b) ?_ ?_
  · refine xv_apply m _ hx _ k _ ?_ rfl
    show (j 0).val = (i 0).val / 512 * 512 + (i 0).val % 512
    omega
  · exact wcv_apply m c _ hw k _ _ rfl h1

end Cert.KernelIdeal.Exchange

namespace Cert.ReferenceIdeal.Whole

open Cert.ReferenceIdeal Cert.ReferenceIdeal.Gen Idealize.ShloMosaic

/-- The reference's result. -/
def res (X : FVec Ideal S4096x4096 .f32) (W : FVec Ideal S4096x2048 .f32) (sx sw : FVec Ideal S1 .f32) : FVec Ideal S4096x2048 .f32 :=
  maximumf (mulf (Host.dotGeneral dot_S4096x4096_S4096x2048_S4096x2048_1_0_0_1_n_n none X W)
    (broadcastInDim S4096x2048 ![0, 1] bcast_S1x1_S4096x2048_0_1 (broadcastInDim S1x1 ![1] bcast_S1_S1x1_1 (mulf sx sw))))
    (broadcastInDim S4096x2048 ![] bcast_S_S4096x2048 (constant S_ .f32 0x00000000#32))

theorem res_apply (X : FVec Ideal S4096x4096 .f32) (W : FVec Ideal S4096x2048 .f32) (sx sw : FVec Ideal S1 .f32) (j : S4096x2048.Idx) :
    res X W sx sw j = max ((∑ k : Fin 4096, X (ix2 (j 0) k) * W (ix2 k (j 1))) * (sx (ix1 0) * sw (ix1 0))) 0 := by
  pointwise [res]

end Cert.ReferenceIdeal.Whole

end
-- ==== Proof.lean ====
/-
The proof of the claims: the three programs' frames, and that the kernel's result is the reference's, block by block.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.Gen.ReferenceIdeal.Run
public import proofs.«01_k».proof.Proof.Value
public import Idealize.ShloMosaic.Lib.Quiescent

@[expose] public section

set_option maxRecDepth 65536

noncomputable section

namespace Cert.Proof

open Idealize.ShloMosaic Idealize.SL.Sem

theorem frame_p : Cert.quiescent_Kernel := fun m ρ _ =>
  (θ_run Cert.Kernel.defs _ _).mono (fun _ h => ⟨fun c => (h.1 c).2, h.2⟩) (Cert.Kernel.Exchange.run_all m ρ)

theorem frame_pi : Cert.quiescent_KernelIdeal := fun m ρ _ =>
  (θ_run Cert.KernelIdeal.defs _ _).mono (fun _ h => ⟨fun c => (h.1 c).2, h.2⟩) (Cert.KernelIdeal.Exchange.run_all m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends holding its columns of the reference's result. -/
theorem algebraic : Cert.algebraic_KernelIdeal_ReferenceIdeal := by
  intro m ρ m' ρ' _ hagree
  refine ⟨Cert.ReferenceIdeal.Whole.res (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩) (Cert.KernelIdeal.Exchange.run_all m ρ)
    funext i
    rw [Layout.block_apply]
    rw [Cert.ReferenceIdeal.Whole.res_apply]
    exact Cert.KernelIdeal.Exchange.outA_whole m c hagree i _ rfl rfl
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, frame_p, frame_pi, frame_ri, trivial, algebraic⟩

end Cert.Proof

end
